-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 2048]⟩ (Layout.meshBlock [2, 2, 4] ![[], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S256x8 : Shape := ⟨2, ![256, 8]⟩
abbrev S2x256x8 : Shape := ⟨3, ![2, 256, 8]⟩
abbrev S_ : Shape := ⟨0, ![]⟩
abbrev S256 : Shape := ⟨1, ![256]⟩
abbrev S256x1 : Shape := ⟨2, ![256, 1]⟩
abbrev S1x256x8 : Shape := ⟨3, ![1, 256, 8]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x8, .f32⟩
  | .local _ .vmem, ⟨0, _⟩ => ⟨S256x1024, .bf16⟩
  | .local _ .vmem, ⟨1, _⟩ => ⟨S256x8, .f32⟩
  | .local _ .vmem, ⟨2, _⟩ => ⟨S2x256x8, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v152 : BitVec 32 := Scalar.muli v2 c8_i32_46
  let v153 : BitVec 32 := Scalar.addi c0_i32_47 v152
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_48 : BitVec 32 := 4#32
  let v154 : BitVec 32 := Scalar.muli v9 c4_i32_48
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v156 : BitVec 32 := Scalar.muli v8 c1_i32_49
  let v157 : BitVec 32 := Scalar.addi v155 v156
  v157.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S256x2048, .i32⟩
  | .hbm, ⟨4, _⟩ => ⟨S256x2048, .f32⟩
  | .hbm, ⟨5, _⟩ => ⟨S256x2048, .i32⟩
  | .hbm, ⟨6, _⟩ => ⟨S256x8, .i32⟩
  | .hbm, ⟨7, _⟩ => ⟨S_, .i32⟩
  | .hbm, ⟨8, _⟩ => ⟨S256x8, .i32⟩
  | .hbm, ⟨9, _⟩ => ⟨S256x8, .i1⟩
  | .hbm, ⟨10, _⟩ => ⟨S_, .i32⟩
  | .hbm, ⟨11, _⟩ => ⟨S256x8, .i32⟩
  | .hbm, ⟨12, _⟩ => ⟨S256x8, .i32⟩
  | .hbm, ⟨13, _⟩ => ⟨S256x8, .i32⟩
  | .hbm, ⟨14, _⟩ => ⟨S256x8x1, .i32⟩
  | .hbm, ⟨15, _⟩ => ⟨S1, .i32⟩
  | .hbm, ⟨16, _⟩ => ⟨S_, .i32⟩
  | .hbm, ⟨17, _⟩ => ⟨S256x8x1, .i32⟩
  | .hbm, ⟨18, _⟩ => ⟨S256x8x1, .i1⟩
  | .hbm, ⟨19, _⟩ => ⟨S1x1x1, .i32⟩
  | .hbm, ⟨20, _⟩ => ⟨S256x8x1, .i32⟩
  | .hbm, ⟨21, _⟩ => ⟨S256x8x1, .i1⟩
  | .hbm, ⟨22, _⟩ => ⟨S256x8x1, .i1⟩
  | .hbm, ⟨23, _⟩ => ⟨S_, .i1⟩
  | .hbm, ⟨24, _⟩ => ⟨S256x8, .i1⟩
  | .hbm, ⟨25, _⟩ => ⟨S256x8, .f32⟩
  | .hbm, ⟨26, _⟩ => ⟨S_, .f32⟩
  | .hbm, ⟨27, _⟩ => ⟨S256x8, .f32⟩
  | .hbm, ⟨28, _⟩ => ⟨S256x8, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Steps.lean ====
/-
# The kernel's vector computation, written once

The kernel body takes eight local maxima out of a block and then merges two lists of eight. The printed text repeats
one step sixteen times. This module writes each step once, on a block of 256 rows and `n` columns:

* `rowMax w`: the greatest value of each row;
* `firstAt w`: in each row the first column that holds the row's greatest value;
* `clear w`: `w` with that one place of each row set to −∞;
* `clearIf t w`: the same on the rows where the mask `t` is set, the other rows kept;
* `putCol j v out`: `out` with column `j` replaced by the column vector `v`.

`localTop x` is the list of eight of a block and `mergeTop a b` the merge of two lists of eight. The last section says, for
each part the printed body is cut into, which of these values it computes.
-/
module

public import proofs.«01_k».proof.Proof.Gen.KernelIdeal.Skeleton

@[expose] public section

noncomputable section

namespace Cert.TopEight

open Idealize.ShloMosaic Cert.KernelIdeal Cert.KernelIdeal.Gen

variable {F : FTy → Type} [FloatOps F]

/-- A block of 256 rows and `n` columns. -/
abbrev Blk (n : ℕ) : Shape := ⟨2, ![256, n]⟩

/-- What the vector operations ask of the width `n`: rows reduce, a column spreads over the block, columns are numbered. -/
structure Width (n : ℕ) : Prop where
  red : (Blk n).Reduces [1] S256
  spread : S256x1.Broadcasts (Blk n)
  number : (Blk n).Iotas .tc 32 [1]

theorem wide : Width 1024 := ⟨reduces_S256x1024_S256, broadcasts_S256x1_S256x1024, iota_S256x1024_d1_w32⟩
theorem slim : Width 8 := ⟨reduces_S256x8_S256, broadcasts_S256x1_S256x8, iota_S256x8_d1_w32⟩

section Step
variable {n : ℕ} (h : Width n)

/-- The column number of every place. -/
def colNo : IVec (Blk n) 32 := iota .tc (Blk n) 32 [1] h.number

/-- −∞ everywhere. -/
def low (n : ℕ) : FVec F (Blk n) .f32 := broadcast (Blk n) (Scalar.ofBits .f32 0xFF800000#32)

/-- The greatest value of each row. -/
def rowMax (w : FVec F (Blk n) .f32) : FVec F S256x1 .f32 :=
  shapeCast S256x1 (multiReduction .maximumf [1] S256 w 0xFF800000#32 h.red (.inl rfl) rfl) shapeCasts_S256_S256x1

/-- In each row the first column that holds the row's greatest value. -/
def firstAt (w : FVec F (Blk n) .f32) : IVec S256x1 32 :=
  shapeCast S256x1 (multiReductionI .minsi [1] S256
    (select (cmpf .oeq w (broadcastTo (Blk n) (rowMax h w) h.spread)) (colNo h) (broadcast (Blk n) (BitVec.ofNat 32 n)))
    2147483647#32 h.red rfl) shapeCasts_S256_S256x1

/-- The places `firstAt` names. -/
def hit (w : FVec F (Blk n) .f32) : IVec (Blk n) 1 := cmpi .eq (colNo h) (broadcastTo (Blk n) (firstAt h w) h.spread)

/-- The block with the first greatest value of each row set to −∞. -/
def clear (w : FVec F (Blk n) .f32) : FVec F (Blk n) .f32 := select (hit h w) (low n) w

/-- The same on the rows where `t` is set. -/
def clearIf (t : IVec S256x1 1) (w : FVec F (Blk n) .f32) : FVec F (Blk n) .f32 :=
  select (andi (broadcastTo (Blk n) t h.spread) (hit h w)) (low n) w

end Step

/-- `out` with column `j` replaced by `v`. -/
def putCol (j : ℕ) (v : FVec F S256x1 .f32) (out : FVec F S256x8 .f32) : FVec F S256x8 .f32 :=
  select (cmpi .eq (colNo slim) (broadcast S256x8 (BitVec.ofNat 32 j)))
    (broadcastTo S256x8 (shapeCast S256x1 v shapeCasts_S256x1_S256x1) broadcasts_S256x1_S256x8) out

/-- The block after `j` steps of `clear`. -/
def work (w : FVec F S256x1024 .f32) : ℕ → FVec F S256x1024 .f32
  | 0 => w
  | j + 1 => clear wide (work w j)

/-- The first `j` columns filled with the row maxima met before each step, the others −∞. -/
def tops (w : FVec F S256x1024 .f32) : ℕ → FVec F S256x8 .f32
  | 0 => low 8
  | j + 1 => putCol j (rowMax wide (work w j)) (tops w j)

/-- The eight greatest of each row of a block, in descending order. -/
def localTop (x : Vec F S256x1024 .bf16) : FVec F S256x8 .f32 := tops (k0_pay2 x) 8

/-- The rows whose greatest value is taken from the left list. -/
def takeLeft (p : FVec F S256x8 .f32 × FVec F S256x8 .f32) : IVec S256x1 1 := cmpf .oge (rowMax slim p.1) (rowMax slim p.2)

/-- The two lists after `j` steps of the merge: each step clears the greatest value of one of them. -/
def rest (a b : FVec F S256x8 .f32) : ℕ → FVec F S256x8 .f32 × FVec F S256x8 .f32
  | 0 => (a, b)
  | j + 1 => (clearIf slim (takeLeft (rest a b j)) (rest a b j).1,
      clearIf slim (xori (takeLeft (rest a b j)) (constantI S256x1 1 1#1)) (rest a b j).2)

/-- The first `j` columns of the merge. -/
def merged (a b : FVec F S256x8 .f32) : ℕ → FVec F S256x8 .f32
  | 0 => low 8
  | j + 1 => putCol j (maximumf (rowMax slim (rest a b j).1) (rowMax slim (rest a b j).2)) (merged a b j)

/-- The eight greatest of two lists of eight. -/
def mergeTop (a b : FVec F S256x8 .f32) : FVec F S256x8 .f32 := merged a b 8

/-! ## The printed parts

The printed body is cut into ten parts at fixed statement counts, so a cut can fall inside a step. The lemmas name what
each part hands the next in the terms above. Parts 2, 3 and 6 to 10 are pure; parts 1, 4 and 5 also touch memory, so for
them only the values are named. -/

/-- The numbers the printed text gives the columns of a block. -/
abbrev no1024 : IVec S256x1024 32 := iota .tc S256x1024 32 [1] iota_S256x1024_d1_w32
/-- The numbers it gives the columns of a list. -/
abbrev no8 : IVec S256x8 32 := iota .tc S256x8 32 [1] iota_S256x8_d1_w32
/-- The comparison of a block with its row maxima. -/
abbrev eqMax {n : ℕ} (h : Width n) (w : FVec F (Blk n) .f32) : IVec (Blk n) 1 :=
  cmpf .oeq w (broadcastTo (Blk n) (rowMax h w) h.spread)
/-- `firstAt` of a list before its result is stood up as a column. -/
abbrev firstFlat (w : FVec F S256x8 .f32) : IVec S256 32 :=
  multiReductionI .minsi [1] S256 (select (eqMax slim w) no8 (broadcast S256x8 8#32)) 2147483647#32 reduces_S256x8_S256 rfl
/-- The rows whose greatest value is taken from the right list. -/
abbrev takeRight (p : FVec F S256x8 .f32 × FVec F S256x8 .f32) : IVec S256x1 1 := xori (takeLeft p) (constantI S256x1 1 1#1)
/-- The places of the left list that the next step clears. -/
abbrev dropLeft (p : FVec F S256x8 .f32 × FVec F S256x8 .f32) : IVec S256x8 1 :=
  andi (broadcastTo S256x8 (takeLeft p) broadcasts_S256x1_S256x8) (hit slim p.1)
/-- The arrived list, loaded with a leading axis of length one, without that axis. -/
abbrev flat (r : Vec F S1x256x8 .f32) : FVec F S256x8 .f32 := shapeCast S256x8 r shapeCasts_S1x256x8_S256x8

section Parts
variable (x : Vec F S256x1024 .bf16) (w : FVec F S256x1024 .f32) (a b : FVec F S256x8 .f32) (r : Vec F S1x256x8 .f32)
variable (arg0 : Memref sig .tc .vmem S256x1024 .bf16) (harg0 : arg0.IsWhole) (arg1 : Memref sig .tc .vmem S256x8 .f32)
  (harg1 : arg1.IsWhole) (arg2 : Memref sig .tc .vmem S2x256x8 .f32) (harg2 : arg2.IsWhole)
  (arg3 : DmaSems sig S_) (arg4 : DmaSems sig S_)

/-- Part 2 ends inside the fourth step on the block. -/
theorem part2_eq : k0_part2 arg0 harg0 arg1 harg1 arg2 harg2 arg3 arg4 (k0_pay2 x) no1024 no8 (k0_pay4 x) (k0_pay5 x)
    = pure ⟨work (k0_pay2 x) 3, tops (k0_pay2 x) 4, eqMax wide (work (k0_pay2 x) 3)⟩ := rfl

/-- Part 3 ends inside the seventh. -/
theorem part3_eq : k0_part3 arg0 harg0 arg1 harg1 arg2 harg2 arg3 arg4 no1024 no8 (work w 3) (tops w 4)
    (eqMax wide (work w 3)) = pure ⟨tops w 6, work w 6, rowMax wide (work w 6), k0_pay21⟩ := rfl

/-- Part 4 finishes the list of eight, -/
theorem part4_list : k0_pay22 no1024 no8 (tops w 6) (work w 6) (rowMax wide (work w 6)) k0_pay21 = tops w 8 := rfl
/-- and stores it with a leading axis of length one. -/
theorem part4_stored : k0_pay23 no1024 no8 (tops w 6) (work w 6) (rowMax wide (work w 6)) k0_pay21
    = shapeCast S1x256x8 (tops w 8) shapeCasts_S256x8_S1x256x8 := rfl

/-- Part 5 drops the leading axis of the arrived list -/
theorem part5_flat : k0_pay24 r = flat r := rfl
/-- and begins the first step of the merge: which list each row takes from, -/
theorem part5_take : k0_pay27 a r = takeLeft (rest a (flat r) 0) := rfl
/-- the first column, -/
theorem part5_merged : k0_pay28 a r = merged a (flat r) 1 := rfl
/-- and where the two maxima sit. -/
theorem part5_first : k0_pay29 a = firstAt slim a := rfl
theorem part5_eqMax : k0_pay30 r = eqMax slim (flat r) := rfl

/-- Part 6 ends inside the second step of the merge. -/
theorem part6_eq : k0_part6 arg0 harg0 arg1 harg1 arg2 harg2 arg3 arg4 a b no8 (takeLeft (rest a b 0)) (merged a b 1)
    (firstAt slim a) (eqMax slim b) 8#32
    = pure ⟨(rest a b 1).2, merged a b 2, firstAt slim (rest a b 1).2, (rest a b 2).1, takeRight (rest a b 1)⟩ := rfl

/-- Part 7 ends inside the fourth. -/
theorem part7_eq : k0_part7 arg0 harg0 arg1 harg1 arg2 harg2 arg3 arg4 no8 (rest a b 1).2 (merged a b 2)
    (firstAt slim (rest a b 1).2) (rest a b 2).1 (takeRight (rest a b 1))
    = pure ⟨merged a b 3, (rest a b 3).1, (rest a b 3).2, rowMax slim (rest a b 3).1, rowMax slim (rest a b 3).2,
        takeLeft (rest a b 3)⟩ := rfl

/-- Part 8 ends inside the fifth. -/
theorem part8_eq : k0_part8 arg0 harg0 arg1 harg1 arg2 harg2 arg3 arg4 no8 (merged a b 3) (rest a b 3).1 (rest a b 3).2
    (rowMax slim (rest a b 3).1) (rowMax slim (rest a b 3).2) (takeLeft (rest a b 3))
    = pure ⟨(rest a b 4).1, (rest a b 4).2, rowMax slim (rest a b 4).2, takeLeft (rest a b 4), merged a b 5,
        firstFlat (rest a b 4).1⟩ := rfl

/-- Part 9 ends inside the sixth. -/
theorem part9_eq : k0_part9 arg0 harg0 arg1 harg1 arg2 harg2 arg3 arg4 no8 (rest a b 4).1 (rest a b 4).2
    (rowMax slim (rest a b 4).2) (takeLeft (rest a b 4)) (merged a b 5) (firstFlat (rest a b 4).1)
    = pure ⟨(rest a b 5).1, (rest a b 5).2, takeLeft (rest a b 5), merged a b 6, firstAt slim (rest a b 5).2,
        dropLeft (rest a b 5), Scalar.ofBits .f32 0xFF800000#32⟩ := rfl

/-- Part 10 ends inside the eighth, -/
theorem part10_eq : k0_part10 arg0 harg0 arg1 harg1 arg2 harg2 arg3 arg4 no8 (rest a b 5).1 (rest a b 5).2
    (takeLeft (rest a b 5)) (merged a b 6) (firstAt slim (rest a b 5).2) (dropLeft (rest a b 5))
    (Scalar.ofBits .f32 0xFF800000#32)
    = pure ⟨merged a b 7, (rest a b 7).2, rowMax slim (rest a b 7).1⟩ := rfl

/-- and what is stored last is the whole merge. -/
theorem last_stored : k0_pay1 no8 (merged a b 7) (rest a b 7).2 (rowMax slim (rest a b 7).1) = mergeTop a b := rfl

end Parts

end Cert.TopEight

end
-- ==== Proof.Pair.lean ====
/-
# The protocol of the kernel

Sixteen devices work in pairs: a device and its `peer`, the device with the other coordinate on the axis `y`. Each device
signals the peer's barrier semaphore and waits for one signal on its own, computes the eight greatest of each row of its
block, stores them in slot 0 of a scratch buffer, copies slot 0 into slot 1 of the peer's scratch buffer, waits for both
ends of the copy, and merges slot 1 with its own list.

The signal is what makes the copy safe: with it a device hands its own slot 1 to its peer. So the barrier semaphore of a
device carries slot 1 of the peer, the send semaphore brings its own slot 0 back, and the receive semaphore brings its own
slot 1 back, holding the peer's list. Everything is stated for any float values and for one device named by a variable.
-/
module

public import proofs.«01_k».proof.Proof.Steps
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.TopEight

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The rounds of the three semaphores of each device, beside those of the launch. -/
abbrev PairRounds : Type := URounds (GSem nD τ sig) Unit
abbrev Res : Type := UR sig nD τ × PairRounds

local notation "𝕄" => MT nD τ sig Unit (Elt F) ℕ Res ℕ

abbrev embLaunch : Emb (UR sig nD τ) (MT nD τ sig Unit (Elt F) ℕ Res ℕ) := embL
abbrev embPair : Emb PairRounds (MT nD τ sig Unit (Elt F) ℕ Res ℕ) := embR

variable (m : (ℓ : Loc nD τ sig) → Buf (Elt F) ℓ) (ρ : Dev nD → PrngReg)

/-- The state at launch: any memory, every semaphore counter zero. -/
abbrev atLaunch : MemSt nD τ sig (Elt F) := ⟨m, fun _ => 0, ρ⟩

/-! ## The pairs -/

/-- The device with the other coordinate on the axis `y`. -/
def peer (c : Dev nD) : Dev nD :=
  ⟨(8 * (c.val / 8) + c.val % 4 + 4) - 4 * (c.val / 4 % 2), by have h : c.val < 16 := c.isLt; show _ < 16; omega⟩

theorem peer_peer (c : Dev nD) : peer (peer c) = c := by
  have h : c.val < 16 := c.isLt
  apply Fin.ext; unfold peer; dsimp only; omega

theorem signal_dev (c : Dev nD) : (⟨k0_dev1 c, k0_dev1_lt c⟩ : Dev nD) = peer c := Fin.ext (k0_dev1_eq c)
theorem copy_dev (c : Dev nD) : (⟨k0_dev2 c, k0_dev2_lt c⟩ : Dev nD) = peer c := Fin.ext (k0_dev2_eq c)

def swapPeer : Dev nD ≃ Dev nD := ⟨peer, peer, peer_peer, peer_peer⟩

/-! ## The buffers and the semaphores -/

abbrev xBuf : Memref sig .tc .vmem S256x1024 .bf16 := Memref.whole cc0_stg0_0
abbrev outBuf : Memref sig .tc .vmem S256x8 .f32 := Memref.whole cc0_stg1_0
abbrev scr : Memref sig .tc .vmem S2x256x8 .f32 := Memref.whole cc0_scratch0

/-- The rectangles of the two slots of the scratch buffer. -/
abbrev rect0 : Rect S2x256x8 := Rect.unit (s := S2x256x8) ![0, 0, 0] S1x256x8.size inb_S2x256x8_S1x256x8_0_0_0
abbrev rect1 : Rect S2x256x8 := Rect.unit (s := S2x256x8) ![1, 0, 0] S1x256x8.size inb_S2x256x8_S1x256x8_1_0_0
/-- Slot 0, where a device stores its own list, and slot 1, where its peer's list lands. -/
abbrev slot0 : Memref sig .tc .vmem S256x8 .f32 := (scr.slice rect0 (fun _ => rfl)).squeeze S256x8 squeezes_S1x256x8_S256x8
abbrev slot1 : Memref sig .tc .vmem S256x8 .f32 := (scr.slice rect1 (fun _ => rfl)).squeeze S256x8 squeezes_S1x256x8_S256x8

abbrev barS : Sem sig := (SemArray.scalar (sig.barrier 0 rfl) : Sems sig S_).sem
abbrev sendS : DmaSem sig := (cc0_scratch1 : DmaSems sig S_).sem
abbrev recvS : DmaSem sig := (cc0_scratch2 : DmaSems sig S_).sem

abbrev barC (c : Dev nD) : GSem nD τ sig := ((c : Thread nD τ), .reg barS)
abbrev sendC (c : Dev nD) : GSem nD τ sig := ((c : Thread nD τ), .dma sendS)
abbrev recvC (c : Dev nD) : GSem nD τ sig := ((c : Thread nD τ), .dma recvS)

/-- The two semaphores the launch allocates, and all three the pair uses. -/
abbrev ownSem : Fin 2 → SemLoc sig := fun | 0 => .dma sendS | 1 => .dma recvS
abbrev pairSem : Fin 3 → SemLoc sig := fun | 0 => .reg barS | 1 => .dma sendS | 2 => .dma recvS
abbrev pairC (ck : Dev nD × Fin 3) : GSem nD τ sig := ((ck.1 : Thread nD τ), pairSem ck.2)

/-- What one copy adds to a semaphore. -/
abbrev credit : ℕ := (slot1 : Memref sig .tc .vmem S256x8 .f32).view.dmaCredit
theorem credit_pos : 0 < credit := View.dmaCredit_pos _ (by decide)

/-! ## The two slots -/

omit [FloatOps F] in
theorem slot0_set : (slot0 : Memref sig .tc .vmem S256x8 .f32).view.set = rect0.set :=
  (View.set_reshape _ _).trans (View.set_slice_whole _ _)
omit [FloatOps F] in
theorem slot1_set : (slot1 : Memref sig .tc .vmem S256x8 .f32).view.set = rect1.set :=
  (View.set_reshape _ _).trans (View.set_slice_whole _ _)

theorem rects_disjoint : Disjoint rect0.set rect1.set := by
  rw [Finset.disjoint_left]
  intro i h0 h1
  have a := (Rect.mem_set_unit.mp h0 0).2
  have b := (Rect.mem_set_unit.mp h1 0).1
  have a' : (i 0).val < 0 + 1 := a
  have b' : 1 ≤ (i 0).val := b
  omega

theorem rects_cover : rect0.set ∪ rect1.set = Finset.univ := by
  ext i
  simp only [Finset.mem_union, Finset.mem_univ, iff_true, Rect.mem_set_unit]
  have h0 : (i 0).val < 2 := (i 0).isLt
  have h1 : (i 1).val < 256 := (i 1).isLt
  have h2 : (i 2).val < 8 := (i 2).isLt
  by_cases h : (i 0).val = 0
  · left; intro a
    fin_cases a
    · show 0 ≤ (i 0).val ∧ (i 0).val < 0 + 1; omega
    · show 0 ≤ (i 1).val ∧ (i 1).val < 0 + 256; omega
    · show 0 ≤ (i 2).val ∧ (i 2).val < 0 + 8; omega
  · right; intro a
    fin_cases a
    · show 1 ≤ (i 0).val ∧ (i 0).val < 1 + 1; omega
    · show 0 ≤ (i 1).val ∧ (i 1).val < 0 + 256; omega
    · show 0 ≤ (i 2).val ∧ (i 2).val < 0 + 8; omega

/-- A device's slot 0, or slot 1, with the scratch contents `f` there. -/
def own0 (c : Dev nD) (f : Buf (Elt F) ((c : Thread nD τ).loc cc0_scratch0)) : sProp 𝕄 :=
  slot0.view.loc (c : Thread nD τ) ↦[slot0.view.set]{fullShare} f
def own1 (c : Dev nD) (f : Buf (Elt F) ((c : Thread nD τ).loc cc0_scratch0)) : sProp 𝕄 :=
  slot1.view.loc (c : Thread nD τ) ↦[slot1.view.set]{fullShare} f

omit [FloatOps F] in
instance own0_storable (c : Dev nD) (f) : BI.Storable (upEmb : UEmb _ 𝕄) (own0 (F := F) c f) := by unfold own0; infer_instance
omit [FloatOps F] in
instance own1_storable (c : Dev nD) (f) : BI.Storable (upEmb : UEmb _ 𝕄) (own1 (F := F) c f) := by unfold own1; infer_instance

omit [FloatOps F] in
/-- The scratch buffer is its two slots. -/
theorem scratch_split (c : Dev nD) (f : Buf (Elt F) ((c : Thread nD τ).loc cc0_scratch0)) :
    (((c : Thread nD τ).loc cc0_scratch0) ↦{fullShare} f : sProp 𝕄) ⊢ iprop(own0 c f ∗ own1 c f) := by
  unfold own0 own1
  rw [slot0_set, slot1_set, ← rects_cover]
  exact (pointsTo_union rects_disjoint).1

omit [FloatOps F] in
/-- Two slots, whatever they hold, are a scratch buffer. -/
theorem scratch_join (c : Dev nD) (f g : Buf (Elt F) ((c : Thread nD τ).loc cc0_scratch0)) :
    iprop(own0 c f ∗ own1 c g) ⊢ (∃ h, ((c : Thread nD τ).loc cc0_scratch0) ↦{fullShare} h : sProp 𝕄) := by
  unfold own0 own1
  rw [slot0_set, slot1_set]
  refine (pointsTo_join rects_disjoint).trans ?_
  rw [rects_cover]
  iintro H; iexists _; iexact H

/-! ## The contents -/

/-- Device `c`'s block of the argument, as its staging buffer holds it. -/
def block (c : Dev nD) : (cc0_stg0_0 : Ref sig .tc).ty.Contents (Elt F) :=
  (win0_0.blk (0 : Fin 1)).view.read (Elt F) ((atLaunch m ρ).mem ((c : Thread nD τ).loc main_arg0))

/-- Device `c`'s own list, -/
def ownList (c : Dev nD) : FVec F S256x8 .f32 := localTop (block m ρ c)
/-- and what it returns: its own list merged with its peer's. -/
def outAt (c : Dev nD) : (cc0_stg1_0 : Ref sig .tc).ty.Contents (Elt F) := mergeTop (ownList m ρ c) (ownList m ρ (peer c))

/-! ## The schedule of the three semaphores -/

/-- The peer's signal hands over the peer's slot 1, and that the peer has reached the round of its receive semaphore. -/
def barPay (c : Dev nD) : sProp 𝕄 := iprop((∃ f, own1 (peer c) f) ∗ reached embPair (recvC (peer c)) 0)
/-- The copy, read out, hands slot 0 back. -/
def sendPay (c : Dev nD) : sProp 𝕄 := iprop(∃ f, own0 c f)
/-- The copy, landed, hands slot 1 back with the peer's list in it. -/
def recvPay (c : Dev nD) : sProp 𝕄 := iprop(∃ f, ⌜slot1.view.read (Elt F) f = ownList m ρ (peer c)⌝ ∗ own1 c f)

abbrev IsPair (g : GSem nD τ sig) : Prop := g.1.2 = .tc ∧ (g.2 = .reg barS ∨ g.2 = .dma sendS ∨ g.2 = .dma recvS)

/-- One round on each of the three semaphores, each with one payment: one unit on the barrier, the copy's credit on the
    other two. -/
def sched : Rounds.Schedule (GSem nD τ sig) Unit 𝕄 where
  duties g r := if r = 0 ∧ IsPair g then {()} else ∅
  unitless _ := False
  amount g _ _ := if g.2 = .reg barS then 1 else credit
  payload g _ _ :=
    if g.2 = .reg barS then barPay g.1.1
    else if g.2 = .dma recvS then recvPay m ρ g.1.1
    else if g.2 = .dma sendS then sendPay g.1.1
    else iprop(emp)
  amount_pos g _ _ _ := by
    by_cases h : g.2 = .reg barS
    · rw [if_pos h]; exact Nat.one_pos
    · rw [if_neg h]; exact credit_pos

instance sched_storable (g : GSem nD τ sig) (r : ℕ) (d : Unit) : BI.Storable (upEmb : UEmb _ 𝕄) ((sched (F := F) m ρ).payload g r d) := by
  show BI.Storable upEmb (if g.2 = .reg barS then barPay g.1.1 else if g.2 = .dma recvS then recvPay m ρ g.1.1
    else if g.2 = .dma sendS then sendPay g.1.1 else iprop(emp))
  unfold barPay recvPay sendPay
  (repeat' split) <;> infer_instance

section Sched
variable (c : Dev nD)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide

theorem duties_pair (k : Fin 3) : (sched (F := F) m ρ).duties (pairC (c, k)) 0 = {()} := by
  dsimp only [sched]; refine if_pos ⟨rfl, rfl, ?_⟩
  fin_cases k
  · exact .inl rfl
  · exact .inr (.inl rfl)
  · exact .inr (.inr rfl)
theorem duties_later (g : GSem nD τ sig) : ∀ r, 1 ≤ r → (sched (F := F) m ρ).duties g r = ∅ :=
  fun r hr => by dsimp only [sched]; exact if_neg fun h => by omega

theorem amount_bar (d : Unit) : (sched (F := F) m ρ).amount (barC c) 0 d = 1 := by dsimp only [sched]; exact if_pos rfl
theorem amount_send (d : Unit) : (sched (F := F) m ρ).amount (sendC c) 0 d = credit := by dsimp only [sched]; exact if_neg send_ne_bar
theorem amount_recv (d : Unit) : (sched (F := F) m ρ).amount (recvC c) 0 d = credit := by dsimp only [sched]; exact if_neg recv_ne_bar

theorem expect_bar : (sched (F := F) m ρ).expect (barC c) 0 = 1 := by
  unfold Schedule.expect Schedule.amountOf
  rw [duties_pair m ρ c 0, Finset.sum_singleton, amount_bar]
theorem expect_send : (sched (F := F) m ρ).expect (sendC c) 0 = credit := by
  unfold Schedule.expect Schedule.amountOf
  rw [duties_pair m ρ c 1, Finset.sum_singleton, amount_send]
theorem expect_recv : (sched (F := F) m ρ).expect (recvC c) 0 = credit := by
  unfold Schedule.expect Schedule.amountOf
  rw [duties_pair m ρ c 2, Finset.sum_singleton, amount_recv]

theorem payload_bar (d : Unit) : (sched (F := F) m ρ).payload (barC c) 0 d = barPay c := by dsimp only [sched]; rw [if_pos rfl]
theorem payload_send (d : Unit) : (sched (F := F) m ρ).payload (sendC c) 0 d = sendPay c := by
  dsimp only [sched]; rw [if_neg send_ne_bar, if_neg send_ne_recv, if_pos rfl]
theorem payload_recv (d : Unit) : (sched (F := F) m ρ).payload (recvC c) 0 d = recvPay m ρ c := by
  dsimp only [sched]; rw [if_neg recv_ne_bar, if_pos rfl]

theorem all_bar : bigSep ((sched (F := F) m ρ).duties (barC c) 0 \ ∅) (fun d => (sched (F := F) m ρ).payload (barC c) 0 d) = barPay c := by
  rw [Finset.sdiff_empty, duties_pair m ρ c 0, bigSep_singleton, payload_bar]
theorem all_send : bigSep ((sched (F := F) m ρ).duties (sendC c) 0 \ ∅) (fun d => (sched (F := F) m ρ).payload (sendC c) 0 d) = sendPay c := by
  rw [Finset.sdiff_empty, duties_pair m ρ c 1, bigSep_singleton, payload_send]
theorem all_recv : bigSep ((sched (F := F) m ρ).duties (recvC c) 0 \ ∅) (fun d => (sched (F := F) m ρ).payload (recvC c) 0 d) = recvPay m ρ c := by
  rw [Finset.sdiff_empty, duties_pair m ρ c 2, bigSep_singleton, payload_recv]

end Sched

/-! ## What a device owes, and the order of the waits -/

/-- Device `c` owes its peer's receive semaphore the copy's credit and its peer's barrier one unit. -/
def debt (c : Dev nD) : CellTallies nD τ sig Unit := tallyAt (recvC (peer c)) () credit + tallyAt (barC (peer c)) () 1

def lanes (g : GSem nD τ sig) : Finset Unit := if g.1.2 = .tc then {()} else ∅
/-- A barrier is waited on before a receive semaphore. -/
def level (g : GSem nD τ sig) (_ : Unit) : ℕ := if g.2 = .reg barS then 1 else if g.2 = .dma recvS then 2 else 0

theorem lanes_off (g : GSem nD τ sig) (h : g.1.2 ≠ .tc) : lanes g = ∅ := if_neg h
theorem lanes_tc (c : Dev nD) (sm : SemLoc sig) : lanes ((c : Thread nD τ), sm) = {()} := if_pos rfl

theorem tally_pos {a g : GSem nD τ sig} {n : ℕ} {u : Unit} (h : 0 < (tallyAt a () n : CellTallies nD τ sig Unit) g u) : g = a := by
  rw [tallyAt_apply] at h
  by_contra hn
  rw [if_neg (fun h' => hn h'.1)] at h
  exact Nat.lt_irrefl 0 h

theorem debt_pos {c : Dev nD} {g : GSem nD τ sig} {u : Unit} (h : 0 < debt c g u) : g = recvC (peer c) ∨ g = barC (peer c) := by
  unfold debt at h
  rw [Pi.add_apply, Finsupp.add_apply] at h
  rcases Nat.add_pos_iff_pos_or_pos.mp h with h | h
  · exact .inl (tally_pos h)
  · exact .inr (tally_pos h)

theorem level_bar (c : Dev nD) : level (barC c) () = 1 := by unfold level; exact if_pos rfl
theorem level_recv (c : Dev nD) : level (recvC c) () = 2 := by unfold level; rw [if_neg recv_ne_bar]; exact if_pos rfl

/-- The staging semaphores are below what a device owes. -/
theorem mayWait_staging (c : Dev nD) (q : DmaSem sig) (hq : SemLoc.dma q ≠ .dma recvS) (O : CellTallies nD τ sig Unit)
    (hO : O = debt c ∨ O = 0) : (levAts lanes level : sProp 𝕄) ⊢ MayWait (c : Thread nD τ) (.dma q) () O := by
  rcases hO with rfl | rfl
  · refine MayOwe.of_cut (L := lanes) (lev := level) 0
      (fun p hp => by rw [Finset.mem_singleton.mp hp, lanes_tc]; exact Finset.mem_singleton_self _)
      (fun g u hg => by rcases debt_pos hg with rfl | rfl <;> exact Finset.mem_singleton_self _)
      (fun p hp => by rw [Finset.mem_singleton.mp hp]; unfold level; rw [if_neg (fun h => by cases h), if_neg hq])
      (fun g u hg => by
        rcases debt_pos hg with rfl | rfl
        · rw [level_recv]; decide
        · rw [level_bar]; decide)
  · rw [MayWait_zero]; iintro -; iempintro

/-- At the barrier a device owes only the copy. -/
theorem mayWait_barrier (c : Dev nD) :
    (levAts lanes level : sProp 𝕄) ⊢ MayWait (c : Thread nD τ) (.reg barS) () (tallyAt (recvC (peer c)) () credit) :=
  MayOwe.of_cut (L := lanes) (lev := level) 1
    (fun p hp => by rw [Finset.mem_singleton.mp hp, lanes_tc]; exact Finset.mem_singleton_self _)
    (fun g u hg => by rw [tally_pos hg, lanes_tc]; exact Finset.mem_singleton_self _)
    (fun p hp => by rw [Finset.mem_singleton.mp hp, level_bar])
    (fun g u hg => by rw [tally_pos hg, level_recv]; decide)

/-! ## What the body starts from and ends with -/

theorem points : cfg0.N = 1 := by decide
def pt : Fin cfg0.N := ⟨0, by rw [points]; decide⟩
theorem pt_only (t : Fin cfg0.N) : t = pt := by
  obtain ⟨t, ht⟩ := t; have := points; exact Fin.ext (by simp only [pt]; omega)

/-- The invariants the body of device `c` opens, allocated at the names `K`. -/
def invs (K : Dev nD × Fin 3 → ℕ) (c : Dev nD) : sProp 𝕄 :=
  iprop(cellInv embPair (sched m ρ) (K (c, 0)) (barC c) ∗ cellInv embPair (sched m ρ) (K (c, 1)) (sendC c)
    ∗ cellInv embPair (sched m ρ) (K (c, 2)) (recvC c) ∗ cellInv embPair (sched m ρ) (K (peer c, 0)) (barC (peer c))
    ∗ cellInv embPair (sched m ρ) (K (peer c, 2)) (recvC (peer c)))

instance invs_persistent (K : Dev nD × Fin 3 → ℕ) (c : Dev nD) : BI.Persistent (invs m ρ K c) := by unfold invs; infer_instance

/-- The payments device `c` makes: the peer's barrier, the peer's receive semaphore, its own send semaphore. -/
def payToks (c : Dev nD) : sProp 𝕄 :=
  iprop(dutyTok embPair (barC (peer c)) 0 () ∗ dutyTok embPair (recvC (peer c)) 0 () ∗ dutyTok embPair (sendC c) 0 ())
/-- Its place in the rounds of its own three. -/
def places (c : Dev nD) : sProp 𝕄 :=
  iprop(atPos embPair (barC c) 0 ∅ 0 ∗ atPos embPair (sendC c) 0 ∅ 0 ∗ atPos embPair (recvC c) 0 ∅ 0)

def ghost (K : Dev nD × Fin 3 → ℕ) (c : Dev nD) : sProp 𝕄 :=
  iprop(invs m ρ K c ∗ (reached embPair (barC (peer c)) 0 ∗ reached embPair (sendC c) 0 ∗ reached embPair (recvC c) 0)
    ∗ places c ∗ payToks c)

def start (c : Dev nD) : sProp 𝕄 :=
  iprop((∃ K, ghost m ρ K c) ∗ cred (tallyAt (barC c) () 1) ∗ cred (tallyAt (recvC c) () credit) ∗ levAts lanes level)

def before (c : Dev nD) : sProp 𝕄 := iprop(start m ρ c ∗ ∃ f, ((c : Thread nD τ).loc cc0_scratch0) ↦{fullShare} f)
def after (c : Dev nD) : sProp 𝕄 :=
  iprop((∃ f, ((c : Thread nD τ).loc cc0_scratch0) ↦{fullShare} f) ∗ semVal (sendC c) 0 ∗ semVal (recvC c) 0 ∗ semVal (barC c) 0)

def data (_ : Fin 1) (c : Dev nD) : Dat τ (Elt F) Unit ℕ Res ℕ cfg0 c where
  A w := (atLaunch m ρ).mem ((cfg0.win w).arr.view.loc (c : Thread nD τ))
  after w _ := match w with
    | ⟨0, _⟩ => block m ρ c
    | ⟨1, _⟩ => outAt m ρ c
  Φ t := match t with
    | ⟨0, _⟩ => before m ρ c
    | ⟨_ + 1, _⟩ => after c
  q _ := fullShare
  owed t := match t with
    | ⟨0, _⟩ => debt c
    | ⟨_ + 1, _⟩ => 0

abbrev noVar : Variants := Variants.none

theorem owns_whole (c : Dev nD) (b : Ref sig .tc) (X : b.ty.Contents (Elt F)) :
    (owns (Ix := Unit) (Name := ℕ) (U := Res) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

theorem zeros2 : (![0, 0] : Fin 2 → Nat) = fun _ => 0 := funext fun a => by fin_cases a <;> rfl

abbrev rectX : Rect S256x1024 := Rect.unit (s := S256x1024) ![0, 0] S256x1024.size inb_S256x1024_S256x1024_0_0
abbrev rectO : Rect S256x8 := Rect.unit (s := S256x8) ![0, 0] S256x8.size inb_S256x8_S256x8_0_0

theorem read_block (f : (cc0_stg0_0 : Ref sig .tc).ty.Contents (Elt F)) : xBuf.view.readAt (Elt F) rectX.toLoadRect f = f :=
  Memref.readAt_unit_zero (Elt F) cc0_stg0_0 zeros2 _ f
theorem write_out (f w : (cc0_stg1_0 : Ref sig .tc).ty.Contents (Elt F)) :
    (outBuf.access rectO : View sig .tc _ _ _).write (Elt F) f w Finset.univ = w :=
  Memref.write_access_unit_zero_univ (Elt F) cc0_stg1_0 zeros2 _ f w

/-- Slot 1 loaded with its leading axis, the axis dropped, is slot 1 read. -/
theorem read_slot1 (f : (cc0_scratch0 : Ref sig .tc).ty.Contents (Elt F)) :
    flat (scr.view.readAt (Elt F) rect1.toLoadRect f) = slot1.view.read (Elt F) f :=
  (Memref.read_squeeze_slice scr rect1 (fun _ => rfl) squeezes_S1x256x8_S256x8 shapeCasts_S1x256x8_S256x8 f).symm

/-- A list stored in slot 0 with a leading axis is read back there. -/
theorem read_slot0 (f : (cc0_scratch0 : Ref sig .tc).ty.Contents (Elt F)) (w : FVec F S256x8 .f32) :
    slot0.view.read (Elt F) ((scr.access rect0 : View sig .tc _ _ _).write (Elt F) f (shapeCast S1x256x8 w shapeCasts_S256x8_S1x256x8) Finset.univ) = w := by
  rw [Memref.read_squeeze_slice scr rect0 (fun _ => rfl) squeezes_S1x256x8_S256x8 shapeCasts_S1x256x8_S256x8]
  show shapeCast S256x8 ((scr.access rect0 : View sig .tc _ _ _).read (Elt F) ((scr.access rect0 : View sig .tc _ _ _).write (Elt F) f _ Finset.univ)) _ = w
  rw [View.read_write_univ]; exact shapeCast_shapeCast _ _ _

theorem access0_set : (scr.access rect0 : View sig .tc _ _ _).setOn Finset.univ ⊆ slot0.view.set := by
  rw [slot0_set]; exact subset_of_eq (View.set_slice_whole cc0_scratch0 rect0)
theorem load0_set : scr.view.setOn rect0.toLoadRect.set ⊆ slot0.view.set := by
  have h := access0_set
  rwa [View.setOn_univ, View.set_slice] at h
theorem load1_set : scr.view.setOn rect1.toLoadRect.set ⊆ slot1.view.set := by
  have h : (scr.access rect1 : View sig .tc _ _ _).set ⊆ slot1.view.set := by
    rw [slot1_set]; exact subset_of_eq (View.set_slice_whole cc0_scratch0 rect1)
  rwa [View.set_slice] at h

end Body

end Cert.TopEight

end
-- ==== Proof.Body.lean ====
/-
# The body of one device

The printed body of a device `c`, run effect by effect under the protocol of `Pair`: from what the launch deals the device
to its result `outAt c` in the output buffer, the two slots of its scratch buffer back, its three semaphores at zero.
-/
module

public import proofs.«01_k».proof.Proof.Pair

@[expose] public section

noncomputable section

namespace Cert.TopEight

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Res ℕ

variable (m : (ℓ : Loc nD τ sig) → Buf (Elt F) ℓ) (ρ : Dev nD → PrngReg)
variable (K : Dev nD × Fin 3 → ℕ)

/-- The copy from slot 0 of device `c` into slot 1 of its peer `n`. -/
theorem wp_copy (c n : Dev nD) (hn : n = peer c) {hsc : (slot1 : Memref sig (Dev.tc n : Thread nD τ).2.kind .vmem S256x8 .f32).view.ref.isScScratch = false}
    {hsrc : slot0.view.WordExact} {hdst : slot1.view.WordExact}
    {hsem : DmaTarget.Typed .vmem (.dma recvS) (.remote (Dev.tc n : Thread nD τ) (slot1 : Memref sig .tc .vmem S256x8 .f32) (.dma sendS) hsc)}
    {α : Type} {Q : α → sProp 𝕄} {k : PUnit → Prog (TpuEff nD τ sig (Elt F) Λ₀ .tc) α}
    (fs : Buf (Elt F) ((c : Thread nD τ).loc cc0_scratch0)) (hfs : slot0.view.read (Elt F) fs = ownList m ρ c)
    (fd : Buf (Elt F) ((peer c : Thread nD τ).loc cc0_scratch0)) (W : Waits sig Unit) :
    iprop(cellInv embPair (sched m ρ) (K (c, 1)) (sendC c) ∗ cellInv embPair (sched m ρ) (K (peer c, 2)) (recvC (peer c))
        ∗ own0 c fs ∗ own1 (peer c) fd
        ∗ owes (c : Thread nD τ) (tallyAt (recvC (peer c)) () credit) W
        ∗ dutyTok embPair (sendC c) 0 () ∗ reached embPair (sendC c) 0
        ∗ dutyTok embPair (recvC (peer c)) 0 () ∗ reached embPair (recvC (peer c)) 0)
      ⊢ iprop(((cred (tallyAt (sendC c) () credit) ∗ owes (c : Thread nD τ) 0 W) -∗ wp frame (wpE (defs₀ (F := F)) noVar (c : Thread nD τ) none) Set.univ (k ⟨⟩) Q)
          -∗ wp frame (wpE (defs₀ (F := F)) noVar (c : Thread nD τ) none) Set.univ
              (.op (.enqueueDma slot0 (.remote (Dev.tc n : Thread nD τ) slot1 (.dma sendS) hsc) (.dma recvS) hsrc hdst hsem) k) Q) := by
  subst hn
  unfold own0 own1
  exact Rounds.wp_send_pointsTo noVar embPair (sched m ρ) (c : Thread nD τ) none (κ₁ := K (c, 1)) (κ₂ := K (peer c, 2))
    (r₁ := 0) (r₂ := 0) (d₁ := ()) (d₂ := ()) (fs := fs) (fd := fd)
    (c' := (Dev.tc (peer c) : Thread nD τ)) (src := slot0) (dst := slot1) (sS := .dma sendS) (sem := .dma recvS)
    (by rw [duties_pair m ρ c 1]; exact Finset.mem_singleton_self _) (by rw [duties_pair m ρ (peer c) 2]; exact Finset.mem_singleton_self _)
    () () credit rfl (amount_send m ρ c ()) (amount_recv m ρ (peer c) ()) 0 (by rw [zero_add]) (W := W)
    (by rw [payload_send]; unfold sendPay own0; iintro H; iexists fs; iexact H)
    (by
      rw [payload_recv]; unfold recvPay own1; rw [peer_peer]
      iintro H; iexists _
      isplitr
      swap
      · iexact H
      · ipureintro
        exact (View.read_write_univ _ _).trans hfs)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(before m ρ c ∗ (data m ρ 0 c).owesAt () pt.castSucc
    ∗ (∃ d, stg c cc0_stg0_0 ((data m ρ 0 c).before (0 : Fin 2) pt d))
    ∗ (∃ d, stg c cc0_stg1_0 ((data m ρ 0 c).before (1 : Fin 2) pt d)))

def bodyPost (c : Dev nD) : sProp 𝕄 :=
  iprop(after c ∗ (data m ρ 0 c).owesAt () pt.succ ∗ stg c cc0_stg0_0 (block m ρ c) ∗ stg c cc0_stg1_0 (outAt m ρ c))

theorem block_fetched (t : Fin cfg0.N) : (cfg0.win (0 : Fin 2)).fetch t = true := by rw [pt_only t]; rfl

set_option maxHeartbeats 1600000 in
/-- The body of device `c`, one rule per effect in program order. -/
theorem body_run (c : Dev nD) (Kt : PUnit → sProp 𝕄) :
    iprop(bodyPre m ρ c ∗ (bodyPost m ρ c -∗ Kt ⟨⟩))
      ⊢ wp frame (wpE (defs₀ (F := F)) noVar c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part4_eq_skeleton, k0_part5_eq_skeleton]
  unfold k0_part1_skel
  simp only [semSignalWord, semWaitWord, Prog.lift, Prog.bind_op, Prog.bind_ret, Prog.pure_eq_ret, wp_deviceId]
  unfold bodyPre before start ghost invs places payToks
  iintro ⟨⟨⟨⟨⟨%K, ⟨#HIbar, #HIsnd, #HIrcv, #HIbarP, #HIrcvP⟩, ⟨#HrB, #HrS, #HrV⟩, ⟨HatB, HatS, HatV⟩, HtB, HtV, HtS⟩, HcB, HcV, #Hlev⟩,
    ⟨%f0, Hscr⟩⟩, Ho, ⟨%d0, %g0, %hg0, Hx⟩, ⟨%d1, %g1, %hg1, Hout⟩⟩, Hk⟩
  have hx : g0 = block m ρ c := by rw [hg0]; unfold Dat.before; rw [if_pos (block_fetched pt)]; rfl
  subst hx
  unfold Dat.owesAt Pipeline.owesWithin
  icases Ho with ⟨%W, %hW, HO⟩
  rw [show (data m ρ 0 c).owed pt.castSucc = debt c from rfl]
  ihave Hs := (scratch_split c f0) $$ Hscr
  icases Hs with ⟨H0, H1⟩
  simp only [signal_dev c]
  -- the signal: slot 1 goes to the peer
  unfold debt
  iapply (Rounds.wp_signal noVar embPair (sched m ρ) (c : Thread nD τ) none (dst := (peer c : Thread nD τ)) (κ := K (peer c, 0))
      (d := ()) (by rw [duties_pair m ρ (peer c) 0]; exact Finset.mem_singleton_self _) ((amount_bar m ρ (peer c) ()).trans (by decide)) ()
      (tallyAt (recvC (peer c)) () credit) rfl) $$ [HO HtB H1]
  · isplitr; · iexact HIbarP
    isplitl [HO]; · iexact HO
    isplitl [HtB]; · iexact HtB
    isplitl [H1]
    · rw [payload_bar]; unfold barPay; rw [peer_peer]
      isplitl [H1]; · iexists f0; iexact H1
      iexact HrV
    · iexact HrB
  iintro HO
  -- the wait on the barrier: the peer's slot 1 arrives
  iapply (Rounds.wp_wait_rest_token noVar embPair (sched m ρ) (c : Thread nD τ) none (κ := K (c, 0))
      (wpE_semWait_eq noVar (c : Thread nD τ) none Set.univ) (Set.mem_univ _) () (O := tallyAt (recvC (peer c)) () credit) (W := W)
      (R := 0) (m := 0) (T := ∅) (by rw [expect_bar]; decide)) $$ [HcB HO HatB]
  · isplitr; · iexact HIbar
    isplitl [HcB]; · iexact HcB
    isplitl [HO]; · iexact HO
    isplitr; · iapply (mayWait_barrier c); iexact Hlev
    iexact HatB
  iintro ⟨HO, HatB, -, Hpay⟩
  ihave Hp := (Entails.of_eq (all_bar m ρ c)) $$ Hpay
  unfold barPay
  icases Hp with ⟨⟨%fp, H1p⟩, #HrVp⟩
  -- the block is read and its eight greatest computed
  iapply (wp_load noVar (c : Thread nD τ) none Set.univ (m := xBuf) (Finset.subset_univ _)) $$ Hx; iintro Hx
  rw [read_block, part2_eq (block m ρ c)]
  simp only [Prog.pure_eq_ret, Prog.bind_ret]
  rw [part3_eq (k0_pay2 (block m ρ c))]
  simp only [Prog.pure_eq_ret, Prog.bind_ret]
  unfold k0_part4_skel
  simp only [Prog.lift, Prog.bind_op, Prog.bind_ret, Prog.pure_eq_ret]
  rw [part4_stored (k0_pay2 (block m ρ c)), part4_list (k0_pay2 (block m ρ c))]
  -- its list is stored in slot 0
  unfold own0
  iapply (wp_load noVar (c : Thread nD τ) none Set.univ (m := scr) load0_set) $$ H0; iintro H0
  iapply (wp_store noVar (c : Thread nD τ) none Set.univ (m := scr) (r := rect0) (Mk := Finset.univ) access0_set) $$ H0; iintro H0
  -- and copied into the peer's slot 1
  iapply (wp_copy m ρ K c _ (copy_dev c) _ (read_slot0 f0 (ownList m ρ c)) fp (insert (SemLoc.reg barS, ()) W)) $$ [H0 H1p HO HtS HtV]
  · isplitr; · iexact HIsnd
    isplitr; · iexact HIrcvP
    isplitl [H0]; · unfold own0; iexact H0
    isplitl [H1p]; · iexact H1p
    isplitl [HO]; · iexact HO
    isplitl [HtS]; · iexact HtS
    isplitr; · iexact HrS
    isplitl [HtV]; · iexact HtV
    iexact HrVp
  iintro ⟨HcS, HO⟩
  unfold k0_part5_skel
  simp only [Prog.lift, Prog.bind_op, Prog.bind_ret, Prog.pure_eq_ret]
  -- the wait for the copy to be read out: slot 0 is back
  iapply (Rounds.wp_wait_rest_token noVar embPair (sched m ρ) (c : Thread nD τ) none (κ := K (c, 1))
      (wpE_waitDma2_eq noVar (c : Thread nD τ) none Set.univ) (Set.mem_univ _) () (O := 0) (W := insert (SemLoc.reg barS, ()) W)
      (R := 0) (m := 0) (T := ∅) (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp := (Entails.of_eq (all_send m ρ c)) $$ Hpay
  unfold sendPay
  icases Hp with ⟨%fa, H0⟩
  -- the wait for the peer's copy: slot 1 is back, with the peer's list
  iapply (Rounds.wp_wait_rest_token noVar embPair (sched m ρ) (c : Thread nD τ) none (κ := K (c, 2))
      (wpE_waitDma2_eq noVar (c : Thread nD τ) none Set.univ) (Set.mem_univ _) () (O := 0)
      (W := insert (SemLoc.dma sendS, ()) (insert (SemLoc.reg barS, ()) W))
      (R := 0) (m := 0) (T := ∅) (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp := (Entails.of_eq (all_recv m ρ c)) $$ Hpay
  unfold recvPay
  icases Hp with ⟨%fb, %hb, H1⟩
  -- the three semaphores are at zero and the device's own again
  imod (Rounds.cell_close embPair (sched m ρ) (Set.mem_univ (K (c, 1))) (fun h => h) (R := 0 + 1) (duties_later m ρ (sendC c))) $$ [HatS] with HzS
  · isplitr; · iexact HIsnd
    iexact HatS
  imod (Rounds.cell_close embPair (sched m ρ) (Set.mem_univ (K (c, 2))) (fun h => h) (R := 0 + 1) (duties_later m ρ (recvC c))) $$ [HatV] with HzV
  · isplitr; · iexact HIrcv
    iexact HatV
  imod (Rounds.cell_close embPair (sched m ρ) (Set.mem_univ (K (c, 0))) (fun h => h) (R := 0 + 1) (duties_later m ρ (barC c))) $$ [HatB] with HzB
  · isplitr; · iexact HIbar
    iexact HatB
  -- slot 1 is loaded and merged with the device's own list
  unfold own1
  iapply (wp_load noVar (c : Thread nD τ) none Set.univ (m := scr) load1_set) $$ H1; iintro H1
  have hA : tops (k0_pay2 (block m ρ c)) 8 = ownList m ρ c := rfl
  have hB : flat (scr.view.readAt (Elt F) rect1.toLoadRect fb) = ownList m ρ (peer c) := (read_slot1 fb).trans hb
  rw [hA, part5_flat (scr.view.readAt (Elt F) rect1.toLoadRect fb),
    part5_take (ownList m ρ c) (scr.view.readAt (Elt F) rect1.toLoadRect fb),
    part5_merged (ownList m ρ c) (scr.view.readAt (Elt F) rect1.toLoadRect fb), part5_first (ownList m ρ c),
    part5_eqMax (scr.view.readAt (Elt F) rect1.toLoadRect fb), hB, part6_eq (ownList m ρ c) (ownList m ρ (peer c))]
  simp only [Prog.pure_eq_ret, Prog.bind_ret]
  rw [part7_eq (ownList m ρ c) (ownList m ρ (peer c))]
  simp only [Prog.pure_eq_ret, Prog.bind_ret]
  rw [part8_eq (ownList m ρ c) (ownList m ρ (peer c))]
  simp only [Prog.pure_eq_ret, Prog.bind_ret]
  rw [part9_eq (ownList m ρ c) (ownList m ρ (peer c))]
  simp only [Prog.pure_eq_ret, Prog.bind_ret]
  rw [part10_eq (ownList m ρ c) (ownList m ρ (peer c))]
  simp only [Prog.pure_eq_ret, Prog.bind_ret]
  rw [last_stored (ownList m ρ c) (ownList m ρ (peer c))]
  -- the result is stored
  iapply (wp_load noVar (c : Thread nD τ) none Set.univ (m := outBuf) (Finset.subset_univ _)) $$ Hout; iintro Hout
  iapply (wp_store noVar (c : Thread nD τ) none Set.univ (m := outBuf) (r := rectO) (Mk := Finset.univ) (Finset.subset_univ _)) $$ Hout; iintro Hout
  rw [write_out, wp_ret]; imodintro
  iapply Hk
  unfold bodyPost after Dat.owesAt Pipeline.owesWithin
  rw [show (data m ρ 0 c).owed pt.succ = 0 from rfl]
  isplitl [H0 H1 HzS HzV HzB]
  · isplitl [H0 H1]
    · iapply (scratch_join c fa fb)
      isplitl [H0]; · iexact H0
      unfold own1; iexact H1
    isplitl [HzS]; · iexact HzS
    isplitl [HzV] <;> iassumption
  isplitl [HO]
  · iexists (insert (SemLoc.dma recvS, ()) (insert (SemLoc.dma sendS, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

/-- What the launch asks of the body. -/
theorem body_meets (c : Dev nD) : BodyObligation (data (F := F) m ρ 0 c) (defs₀ (F := F)) noVar () Set.univ := fun t => by
  rw [pt_only t]
  rw [bigSep_W0, bigSep_W0]
  simp only [owns_whole]
  show bodyPre m ρ c ⊢ wp frame (wpE (defs₀ (F := F)) noVar c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  iintro H
  iapply (body_run m ρ c fun _ => bodyPost m ρ c)
  isplitl
  · iexact H
  · iintro H; iexact H

end Cert.TopEight

end
-- ==== Proof.Run.lean ====
/-
# The launch and the run

From the body of one device to the run of the whole program: the rounds of the three semaphores of every device are
allocated, each device is dealt its place and the payments it makes, and the library's launch theorem gives the run.
`run_main` says that every execution ends, with each device's result array holding `outAt c`, its argument as it was, and
every semaphore counter at zero.
-/
module

public import proofs.«01_k».proof.Proof.Body
public import Idealize.ShloMosaic.Lib.Pipeline.CollectiveSegs

@[expose] public section

noncomputable section

namespace Cert.TopEight

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Res ℕ

variable (m : (ℓ : Loc nD τ sig) → Buf (Elt F) ℓ) (ρ : Dev nD → PrngReg)

/-! ## What the launch allocates -/

theorem ownSem_facts : Pipeline.OwnSemFacts cfg0.spec ownSem := by decide

theorem share_full (c : Dev nD) (w : Fin cfg0.W) : (data m ρ 0 c).share w = fullShare := by unfold Dat.share; split <;> rfl

theorem pairC_injective : Function.Injective (pairC : Dev nD × Fin 3 → GSem nD τ sig) := by
  rintro ⟨c, k⟩ ⟨c', k'⟩ h
  obtain rfl : c = c' := congrArg (fun g : GSem nD τ sig => g.1.1) h
  have hk : pairSem k = pairSem k' := congrArg Prod.snd h
  obtain rfl : k = k' := by
    fin_cases k <;> fin_cases k' <;> first | rfl | exact absurd hk (by decide)
  rfl

/-- Every semaphore of the pairs, -/
def allCells : Finset (GSem nD τ sig) := Finset.univ.map ⟨pairC, pairC_injective⟩
/-- and its one payment. -/
def allToks : Finset (GSem nD τ sig × ℕ × Unit) := allCells.map ⟨fun g => (g, 0, ()), fun _ _ h => congrArg Prod.fst h⟩

def elem : Res := (initOf (Pipeline.cells cfgs cellOf_inj) (Pipeline.launchToks cfgs cellOf_inj), initOf allCells allToks)

theorem three (Φ : Fin 3 → sProp 𝕄) : bigSep Finset.univ Φ = iprop(Φ 0 ∗ Φ 1 ∗ Φ 2) :=
  bigSep_univ_eq_bigSepL [0, 1, 2] (by decide) (by decide) Φ

/-- The payments to the semaphores of device `c`. -/
def toks (c : Dev nD) : sProp 𝕄 := bigSep Finset.univ fun k : Fin 3 => dutyTok embPair (pairC (c, k)) 0 ()

/-- What the launch deals device `c`, -/
def dealt (c : Dev nD) : sProp 𝕄 :=
  iprop((bigSep Finset.univ fun k : Fin 3 => roundState embPair (sched m ρ) (pairC (c, k)) 0)
    ∗ (bigSep Finset.univ fun k : Fin 3 => iprop(atPos embPair (pairC (c, k)) 0 ∅ 0 ∗ reached embPair (pairC (c, k)) 0)) ∗ toks c)
/-- and what it holds once the invariants are allocated. -/
def ready (c : Dev nD) : sProp 𝕄 := iprop(∃ K, ghost m ρ K c)

theorem fund_pairs : BI.own (embPair (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k : Fin 3 => Φ (pairC (c, k)) := by
    unfold allCells; rw [bigSep_map, bigSep_univ_prod]; rfl
  have hT : bigSep allToks (fun x => (dutyTok embPair x.1 x.2.1 x.2.2 : sProp 𝕄)) = bigSep Finset.univ fun c : Dev nD => toks c := by
    unfold allToks; rw [bigSep_map]; exact hX _
  iintro HX
  imod (Rounds.fund embPair (sched m ρ) allCells allToks) $$ HX with ⟨Hst, Hr, Hat, Htok⟩
  imodintro
  ihave Hst' := (Entails.of_eq (hX fun g => roundState embPair (sched m ρ) g 0)) $$ Hst
  ihave Hat' := (Entails.of_eq (hX fun g => atPos embPair g 0 ∅ 0)) $$ Hat
  ihave Hr' := (Entails.of_eq (hX fun g => reached embPair g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem ownSems_eq (c : Dev nD) : (Pipeline.ownSems0 (Ix := Unit) (Name := ℕ) (U := Res) (Lvl := ℕ) (Val := Elt F) (τ := τ) ownSem c : sProp 𝕄)
    = iprop(semVal (sendC c) 0 ∗ semVal (recvC c) 0) := by
  rw [Pipeline.ownSems0_eq_of_list c ownSem [0, 1] (by decide) (by decide)]; rfl
theorem barSem_eq (c : Dev nD) : (unscopedSems0 c : sProp 𝕄) = semVal (barC c) 0 := by
  unfold unscopedSems0; rw [bigSep_eq_bigSepL_of_eq [SemLoc.reg barS] (by decide) (by decide)]; rfl

/-- The invariants of one device's three semaphores are allocated from their counters at zero. -/
theorem alloc_one (c : Dev nD) :
    iprop(Pipeline.ownSems0 (Ix := Unit) (Name := ℕ) (U := Res) (Lvl := ℕ) (Val := Elt F) (τ := τ) ownSem c ∗ unscopedSems0 c ∗ dealt m ρ c)
      ⊢ |={Set.univ}=> iprop((bigSep Finset.univ fun k => iprop(∃ κ : ℕ, cellInv embPair (sched m ρ) κ (pairC (c, k))))
          ∗ (bigSep Finset.univ fun k => iprop(atPos embPair (pairC (c, k)) 0 ∅ 0 ∗ reached embPair (pairC (c, k)) 0)) ∗ toks c) := by
  unfold dealt
  rw [ownSems_eq, barSem_eq]
  iintro ⟨⟨HS, HV⟩, HB, Hst, Hat, Htok⟩
  imod (show iprop((bigSep Finset.univ fun k : Fin 3 => semVal (pairC (c, k)) 0) ∗ bigSep Finset.univ fun k : Fin 3 => roundState embPair (sched m ρ) (pairC (c, k)) 0)
      ⊢ (|={Set.univ}=> bigSep Finset.univ fun k => iprop(∃ κ : ℕ, cellInv embPair (sched m ρ) κ (pairC (c, k))) : sProp 𝕄) from by
        rw [← bigSep_sep']
        exact (bigSep_mono fun k _ => (Rounds.body_intro embPair (sched m ρ) (pairC (c, k))).trans inv_alloc).trans (bigSep_fupd _ _)) $$ [HS HV HB Hst] with Hinv
  · isplitl [HS HV HB]
    · rw [three]
      isplitl [HB]; · iexact HB
      isplitl [HS] <;> iassumption
    iexact Hst
  imodintro
  isplitl [Hinv]; · iexact Hinv
  isplitl [Hat] <;> iassumption

/-- What every device may read: all the invariants, and that every semaphore has reached round 0. -/
def shared (K : Dev nD × Fin 3 → ℕ) : sProp 𝕄 :=
  iprop((bigSep Finset.univ fun ck : Dev nD × Fin 3 => cellInv embPair (sched m ρ) (K ck) (pairC ck))
    ∗ bigSep Finset.univ fun ck : Dev nD × Fin 3 => reached embPair (pairC ck) 0)

instance shared_persistent (K : Dev nD × Fin 3 → ℕ) : BI.Persistent (shared m ρ K) := by unfold shared; infer_instance

theorem shared_inv (K : Dev nD × Fin 3 → ℕ) (ck : Dev nD × Fin 3) :
    (bigSep Finset.univ fun ck : Dev nD × Fin 3 => (cellInv embPair (sched m ρ) (K ck) (pairC ck) : sProp 𝕄)) ⊢ cellInv embPair (sched m ρ) (K ck) (pairC ck) :=
  bigSep_elim (Finset.mem_univ ck)
theorem shared_reached (ck : Dev nD × Fin 3) :
    (bigSep Finset.univ fun ck : Dev nD × Fin 3 => (reached embPair (pairC ck) 0 : sProp 𝕄)) ⊢ reached embPair (pairC ck) 0 :=
  bigSep_elim (Finset.mem_univ ck)

theorem ready_intro (K : Dev nD × Fin 3 → ℕ) (c : Dev nD) : iprop(shared m ρ K ∗ places c ∗ payToks c) ⊢ ready m ρ c := by
  unfold shared ready ghost invs
  iintro ⟨⟨#HI, #HR⟩, Hp, Ht⟩
  iexists K
  isplitr
  · isplitr; · iapply (shared_inv m ρ K (c, 0)); iexact HI
    isplitr; · iapply (shared_inv m ρ K (c, 1)); iexact HI
    isplitr; · iapply (shared_inv m ρ K (c, 2)); iexact HI
    isplitr; · iapply (shared_inv m ρ K (peer c, 0)); iexact HI
    iapply (shared_inv m ρ K (peer c, 2)); iexact HI
  isplitr
  · isplitr; · iapply (shared_reached (F := F) (peer c, 0)); iexact HR
    isplitr; · iapply (shared_reached (F := F) (c, 1)); iexact HR
    iapply (shared_reached (F := F) (c, 2)); iexact HR
  isplitl [Hp] <;> iassumption

/-- The payments change hands within each pair: the barrier's and the receive semaphore's go to the peer. -/
theorem toks_swap : (bigSep Finset.univ fun c : Dev nD => (toks c : sProp 𝕄)) ⊢ bigSep Finset.univ fun c : Dev nD => payToks c := by
  unfold toks payToks
  simp only [three]
  rw [bigSep_sep', bigSep_sep', bigSep_sep', bigSep_sep',
    bigSep_univ_equiv swapPeer (fun c : Dev nD => (dutyTok embPair (pairC (c, 0)) 0 () : sProp 𝕄)),
    bigSep_univ_equiv swapPeer (fun c : Dev nD => (dutyTok embPair (pairC (c, 2)) 0 () : sProp 𝕄))]
  iintro ⟨HB, HS, HV⟩
  isplitl [HB]; · iexact HB
  isplitl [HV]; · iexact HV
  iexact HS

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_all :
    (bigSep Finset.univ fun c : Dev nD => iprop((bigSep Finset.univ fun k => iprop(∃ κ : ℕ, cellInv embPair (sched m ρ) κ (pairC (c, k))))
          ∗ (bigSep Finset.univ fun k => iprop(atPos embPair (pairC (c, k)) 0 ∅ 0 ∗ reached embPair (pairC (c, k)) 0)) ∗ toks c) : sProp 𝕄)
      ⊢ bigSep Finset.univ (ready m ρ) := by
  rw [bigSep_sep', bigSep_sep', ← bigSep_univ_prod (fun ck : Dev nD × Fin 3 => iprop(∃ κ : ℕ, cellInv embPair (sched m ρ) κ (pairC ck))),
    bigSep_congr (s := Finset.univ) (fun (c : Dev nD) _ => bigSep_sep' Finset.univ (fun k : Fin 3 => (atPos embPair (pairC (c, k)) 0 ∅ 0 : sProp 𝕄)) (fun k => reached embPair (pairC (c, k)) 0)),
    bigSep_sep', ← bigSep_univ_prod (fun ck : Dev nD × Fin 3 => (reached embPair (pairC ck) 0 : sProp 𝕄))]
  iintro ⟨HI, ⟨Hat, #HR⟩, Htok⟩
  ihave HK := (BI.bigSep_exists_pi Finset.univ (fun (ck : Dev nD × Fin 3) (κ : ℕ) => (cellInv embPair (sched m ρ) κ (pairC ck) : sProp 𝕄))) $$ HI
  icases HK with ⟨%K, #HI⟩
  ihave Htk := (toks_swap (F := F)) $$ Htok
  iapply (with_shared (R := shared m ρ K) fun c _ => ready_intro m ρ K c)
  isplitr
  · unfold shared; isplitl; · iexact HI
    iexact HR
  · rw [bigSep_sep']
    isplitl [Hat]
    · iapply (show (bigSep Finset.univ fun c : Dev nD => bigSep Finset.univ fun k : Fin 3 => (atPos embPair (pairC (c, k)) 0 ∅ 0 : sProp 𝕄))
        ⊢ bigSep Finset.univ fun c : Dev nD => places c from
        bigSep_mono fun c _ => Entails.of_eq (three fun k => atPos embPair (pairC (c, k)) 0 ∅ 0))
      iexact Hat
    iexact Htk

/-- All devices at once, from their counters at zero to what their bodies start from. -/
theorem alloc_all : (bigSep Finset.univ fun c => iprop(Pipeline.ownSems0 (Ix := Unit) (Name := ℕ) (U := Res) (Lvl := ℕ) (Val := Elt F) (τ := τ) ownSem c ∗ unscopedSems0 c ∗ dealt m ρ c) : sProp 𝕄)
    ⊢ |={Set.univ}=> bigSep Finset.univ (ready m ρ) :=
  ((bigSep_mono fun c _ => alloc_one m ρ c).trans (bigSep_fupd _ _)).trans (BI.fupd_mono (deal_all m ρ))

/-! ## The credits: what each device may wait for -/

theorem pairC_peer {d c : Dev nD} {k : Fin 3} : (pairC (peer d, k) = pairC (c, k)) ↔ d = peer c :=
  ⟨fun h => by
      have h' : peer d = c := congrArg (fun g : GSem nD τ sig => g.1.1) h
      rw [← h', peer_peer],
    fun h => by rw [h, peer_peer]⟩

/-- A device's barrier and receive semaphore are owed to by its peer alone. -/
theorem owed_bar (d c : Dev nD) : debt d (barC c) () = if d = peer c then 1 else 0 := by
  unfold debt
  rw [Pi.add_apply, Finsupp.add_apply, tallyAt_ne_cell (fun h => recv_ne_bar (congrArg Prod.snd h).symm), tallyAt_apply,
    Finsupp.zero_apply, Nat.zero_add]
  by_cases h : d = peer c
  · rw [if_pos h, h, peer_peer, if_pos ⟨rfl, rfl⟩]
  · rw [if_neg h, if_neg fun h' => h ((pairC_peer (k := 0)).mp h'.1.symm)]
theorem owed_recv (d c : Dev nD) : debt d (recvC c) () = if d = peer c then credit else 0 := by
  unfold debt
  rw [Pi.add_apply, Finsupp.add_apply, tallyAt_apply, tallyAt_ne_cell (fun h => recv_ne_bar (congrArg Prod.snd h)),
    Finsupp.zero_apply, Nat.add_zero]
  by_cases h : d = peer c
  · rw [if_pos h, h, peer_peer, if_pos ⟨rfl, rfl⟩]
  · rw [if_neg h, if_neg fun h' => h ((pairC_peer (k := 2)).mp h'.1.symm)]

theorem credit_bar (c : Dev nD) :
    tallyOn (barC c) (launchCredit (Pipeline.owing debt) 0 (barC c)) = (tallyAt (barC c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]
theorem credit_recv (c : Dev nD) :
    tallyOn (recvC c) (launchCredit (Pipeline.owing debt) 0 (recvC c)) = (tallyAt (recvC c) () credit : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => credit, if_pos (Finset.mem_univ _)]

theorem credits (c : Dev nD) :
    (Pipeline.launchCred debt c : sProp 𝕄) ⊢ iprop(cred (tallyAt (barC c) () 1) ∗ cred (tallyAt (recvC c) () credit)) := by
  unfold Pipeline.launchCred
  rw [bigSep_univ_at _ (SemLoc.reg barS), credit_bar]
  refine sep_mono_right ?_
  rw [← credit_recv]
  exact bigSep_elim (Finset.mem_erase.mpr ⟨recv_ne_bar, Finset.mem_univ _⟩)

/-! ## The launch theorem's side conditions -/

theorem start_intro (c : Dev nD) :
    iprop(Pipeline.unscopedRestP Pipeline.Prefetch.none cfg0.spec c (fun b => m ((c : Thread nD τ).loc b)) ∗ levAts lanes level
        ∗ Pipeline.launchCred debt c ∗ prngReg c (ρ c) ∗ ready m ρ c)
      ⊢ |={Set.univ}=> iprop(start m ρ c ∗ emp) := by
  iintro ⟨-, Hlev, Hcr, -, HG⟩
  ihave Hc := (credits (F := F) c) $$ Hcr
  icases Hc with ⟨H1, HN⟩
  imodintro
  unfold start ready
  isplitl
  · isplitl [HG]; · iexact HG
    isplitl [H1]; · iexact H1
    isplitl [HN]; · iexact HN
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (data m ρ 0 c).Φ 0 := by
  rw [show (data m ρ 0 c).Φ 0 = before m ρ c from rfl, scopedRest0_eq]
  unfold before
  iintro ⟨Hs, -, Hr⟩
  isplitl [Hs] <;> iassumption

theorem leave (c : Dev nD) :
    (data m ρ 0 c).Φ (Fin.last cfg0.N) ⊢ iprop(unscopedSems0 c ∗ Pipeline.ownSems0 ownSem c ∗ Pipeline.scopedRest cfg0.spec c) := by
  rw [show (data m ρ 0 c).Φ (Fin.last cfg0.N) = after c from rfl, scopedRest0_eq, ownSems_eq, barSem_eq]
  unfold after
  iintro ⟨Hr, HzS, HzV, HzB⟩
  isplitl [HzB]; · iexact HzB
  isplitl [HzS HzV]
  · isplitl [HzS] <;> iassumption
  iexact Hr

theorem waits (c : Dev nD) : (levAts lanes level : sProp 𝕄) ⊢ Pipeline.cellsWaits cfgs (data m ρ) () 0 c :=
  Pipeline.cellsWaits_intro cfgs (data m ρ) () 0 c fun w s t =>
    mayWait_staging c _ (by fin_cases w <;> fin_cases s <;> decide) _ (by
      rcases t with ⟨_ | _, ht⟩
      · exact Or.inl rfl
      · exact Or.inr rfl)

/-! ## The run -/

/-- The contents of window `w`'s array on device `c` after the run. -/
def finalArr (c : Dev nD) (w : Fin cfg0.W) : Buf (Elt F) ((cfg0.win w).arr.view.loc (c : Thread nD τ)) := (data m ρ 0 c).arrAt w cfg0.N

def Final : PUnit × MemSt nD τ sig (Elt F) → Prop := fun r =>
  ∀ c : Dev nD, ∀ w : Fin cfg0.W, r.2.mem ((cfg0.win w).arr.view.loc (c : Thread nD τ)) = finalArr m ρ c w

set_option maxRecDepth 8000 in
/-- From any memory with every counter at zero, every fair execution of the sixteen devices ends, and then each device's
    arrays hold the final contents and every counter is zero again. -/
theorem run_main : θ_run defs (onTc (τ := τ) (main (F := F))) (atLaunch m ρ) (fun r => Final m ρ r ∧ r.2.sem = fun _ => 0) :=
  Pipeline.θ_run_region_owing_glob_pf (fun p => (cfgs p).toPCfg) (fun p => (cfgs p).toPCfg_adm) (data m ρ) () cellOf_inj (0 : Fin 1)
    winFacts0.to₀ ownSem_facts (Pipeline.PreFacts.none _) embLaunch defs₀ noVar m ρ main
    (hmain := fun _ => rfl)
    (hbody := body_meets m ρ) (hne := fun w => by fin_cases w <;> exact Nat.succ_pos _) (harr := arr_whole0) (hstage := stage_whole0)
    (hshare := share_full m ρ) (hdistinct := winFacts0.arr_inj)
    (O₀ := debt) (howed₀ := fun _ => rfl) (howedN := fun _ => rfl)
    (L := lanes) (lv := level) (hL := lanes_off) (hwaits := waits m ρ)
    (G := dealt m ρ) (G' := ready m ρ) (u₀ := elem)
    (hu₀ := by
      unfold elem
      iintro Hu
      ihave H := (ownU_pair _ _) $$ Hu
      icases H with ⟨HP, HX⟩
      imod (fund_pairs m ρ) $$ HX with HG
      imodintro
      isplitl [HP] <;> iassumption)
    (hglob := alloc_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is as it was. -/
theorem final_arg (c : Dev nD) : finalArr m ρ c (0 : Fin 2) = m ((c : Thread nD τ).loc main_arg0) :=
  (data (F := F) m ρ 0 c).arrAt_in (0 : Fin 2) rfl _

theorem mem_whole_block (i : S256x8.Idx) : i ∈ ((cfg0.win 1).blk t0_0).view.set := by
  show i ∈ ((View.whole main_v1).slice (win0_1.rect t0_0)).set
  rw [View.set_slice_whole, Rect.mem_set_unit]
  have e : ∀ a : Fin 2, win0_1.index t0_0 a * win0_1.size a = 0 ∧ win0_1.xsize (grid0.coords t0_0) a = S256x8.size a := by decide +kernel
  intro a
  have h : (i a : Nat) < S256x8.size a := (i a).isLt
  show win0_1.index t0_0 a * win0_1.size a ≤ (i a : Nat) ∧ (i a : Nat) < win0_1.index t0_0 a * win0_1.size a + win0_1.xsize (grid0.coords t0_0) a
  rw [(e a).1, (e a).2]; omega

theorem read_result (f : main_v1.ty.Contents (Elt F)) : (win0_1.blk t0_0).view.read (Elt F) f = f :=
  Memref.read_access_unit_zero (Elt F) main_v1 (funext fun a => by fin_cases a <;> decide) (fun a => by fin_cases a <;> decide) f
theorem read_argument (f : main_arg0.ty.Contents (Elt F)) : (win0_0.blk t0_0).view.read (Elt F) f = f :=
  Memref.read_access_unit_zero (Elt F) main_arg0 (funext fun a => by fin_cases a <;> decide) (fun a => by fin_cases a <;> decide) f

/-- The result's array ends at what the body left in its staging buffer. -/
theorem final_out (c : Dev nD) : finalArr m ρ c (1 : Fin 2) = outAt m ρ c :=
  (data m ρ 0 c).arrAt_eq_of_cover (1 : Fin 2) (outAt m ρ c)
    (fun t _ => by rw [fin_N0 t]; exact (read_result (outAt m ρ c)).symm)
    (fun i => ⟨t0_0, flush0_1 _, mem_whole_block i⟩)

/-- What the body finds in its staging buffer is the device's argument. -/
theorem block_eq (c : Dev nD) : block m ρ c = m ((c : Thread nD τ).loc main_arg0) :=
  read_argument (m ((c : Thread nD τ).loc main_arg0))

end Cert.TopEight

end
-- ==== Proof.Count.lean ====
/-
# Counting the entries that reach a threshold

Plain order theory over the extended reals. A row is described by how many of its entries reach each threshold `t > −∞`.
The value of rank `j` of a row, counted from zero downwards, is the one that `t` does not exceed exactly when more than
`j` entries reach `t`. Striking out one greatest entry lowers every positive count by one, so the maxima met on the way
are the values of rank 0, 1, 2, …; a row sorted in descending order holds the same values at the same places.
The last section reads a column number back from its 32-bit word.
-/
module

public import Mathlib.Data.EReal.Basic
public import Mathlib.Algebra.BigOperators.Fin

@[expose] public section

namespace Cert.TopEight

variable {n : ℕ}

/-- How many entries of the row `w` reach the threshold `t`. -/
noncomputable def atLeast (t : EReal) (w : Fin n → EReal) : ℕ := (Finset.univ.filter fun k => t ≤ w k).card

/-- The row `w` with entry `k` struck out. -/
noncomputable def strike (w : Fin n → EReal) (k : Fin n) : Fin n → EReal := fun i => if i = k then ⊥ else w i

/-- `M` is the greatest entry of the row `w`. -/
def IsTop (w : Fin n → EReal) (M : EReal) : Prop := (∀ k, w k ≤ M) ∧ ∃ k, w k = M

/-- `v` has rank `j` among values of which `c t` reach each threshold `t`. -/
def HasRank (c : EReal → ℕ) (j : ℕ) (v : EReal) : Prop := ∀ t, ⊥ < t → (t ≤ v ↔ j < c t)

/-- Two values of one rank are equal. -/
theorem HasRank.unique {c : EReal → ℕ} {j : ℕ} {v v' : EReal} (h : HasRank c j v) (h' : HasRank c j v') : v = v' := by
  have one : ∀ {a b : EReal}, HasRank c j a → HasRank c j b → a ≤ b := fun {a b} ha hb => by
    rcases eq_bot_or_bot_lt a with rfl | hlt
    · exact bot_le
    · exact (hb a hlt).mpr ((ha a hlt).mp le_rfl)
  exact le_antisymm (one h h') (one h' h)

/-- The greatest entry reaches `t` exactly when some entry does. -/
theorem IsTop.le_iff {w : Fin n → EReal} {M : EReal} (h : IsTop w M) (t : EReal) : t ≤ M ↔ 0 < atLeast t w := by
  unfold atLeast
  rw [Finset.card_pos]
  constructor
  · intro ht
    obtain ⟨k, hk⟩ := h.2
    exact ⟨k, Finset.mem_filter.mpr ⟨Finset.mem_univ _, hk ▸ ht⟩⟩
  · rintro ⟨k, hk⟩
    exact (Finset.mem_filter.mp hk).2.trans (h.1 k)

/-- Striking out a greatest entry takes one from every positive count. -/
theorem atLeast_strike {w : Fin n → EReal} {M : EReal} (h : IsTop w M) {k : Fin n} (hk : w k = M) {t : EReal} (ht : ⊥ < t) :
    atLeast t (strike w k) = atLeast t w - 1 := by
  by_cases hM : t ≤ M
  · have e : (Finset.univ.filter fun i => t ≤ strike w k i) = (Finset.univ.filter fun i => t ≤ w i).erase k := by
      ext i
      rw [Finset.mem_erase, Finset.mem_filter, Finset.mem_filter]
      unfold strike
      by_cases hi : i = k
      · rw [if_pos hi]
        exact ⟨fun h => absurd (lt_of_lt_of_le ht h.2) (lt_irrefl _), fun h => absurd hi h.1⟩
      · rw [if_neg hi]
        exact ⟨fun h => ⟨hi, h⟩, fun h => h.2⟩
    unfold atLeast
    rw [e, Finset.card_erase_of_mem]
    exact Finset.mem_filter.mpr ⟨Finset.mem_univ _, hk ▸ hM⟩
  · have h0 : atLeast t w = 0 := Nat.eq_zero_of_not_pos fun hp => hM ((h.le_iff t).mpr hp)
    rw [h0]
    refine Finset.card_eq_zero.mpr (Finset.filter_eq_empty_iff.mpr fun i _ hi => ?_)
    unfold strike at hi
    split at hi
    · exact absurd (lt_of_lt_of_le ht hi) (lt_irrefl _)
    · exact hM (hi.trans (h.1 i))

/-- How many of `n` places lie below `c`. -/
theorem card_below (n c : ℕ) : (Finset.univ.filter fun k : Fin n => k.val < c).card = min n c := by
  rw [Fin.card_filter_val_lt]

/-- A row whose entry `k` has rank `k` has the counts it ranks by, cut off at its length. -/
theorem atLeast_of_ranks {c : EReal → ℕ} {v : Fin n → EReal} (h : ∀ k, HasRank c k.val (v k)) {t : EReal} (ht : ⊥ < t) :
    atLeast t v = min n (c t) := by
  unfold atLeast
  rw [← card_below n (c t)]
  exact congrArg _ (Finset.filter_congr fun k _ => h k t ht)

/-- Entry `k` of a row in descending order has rank `k` among the row's entries. -/
theorem rank_of_sorted {u : Fin n → EReal} (hu : ∀ i j, i < j → u j ≤ u i) (k : Fin n) : HasRank (fun t => atLeast t u) k.val (u k) := by
  intro t _
  have mono : ∀ i j, i ≤ j → u j ≤ u i := fun i j hij => by
    rcases hij.eq_or_lt with rfl | h
    · exact le_rfl
    · exact hu i j h
  constructor
  · intro hk
    have hs : Finset.Iic k ⊆ Finset.univ.filter fun i => t ≤ u i := fun i hi =>
      Finset.mem_filter.mpr ⟨Finset.mem_univ _, hk.trans (mono i k (Finset.mem_Iic.mp hi))⟩
    have := Finset.card_le_card hs
    rw [Fin.card_Iic] at this
    exact this
  · intro hk
    by_contra hn
    have hs : (Finset.univ.filter fun i => t ≤ u i) ⊆ Finset.Iio k := fun i hi => by
      rw [Finset.mem_Iio]
      by_contra hik
      exact hn ((Finset.mem_filter.mp hi).2.trans (mono k i (not_lt.mp hik)))
    have := Finset.card_le_card hs
    rw [Fin.card_Iio] at this
    exact absurd hk (not_lt.mpr this)

/-- Counts do not depend on the order of the entries. -/
theorem atLeast_comp {σ : Fin n → Fin n} (hσ : Function.Bijective σ) (t : EReal) (w : Fin n → EReal) :
    atLeast t (fun k => w (σ k)) = atLeast t w := by
  unfold atLeast
  rw [Finset.card_filter, Finset.card_filter]
  exact hσ.sum_comp fun k => if t ≤ w k then 1 else 0

/-- The count of a row is the sum of the counts of its two parts. -/
theorem atLeast_append {p q : ℕ} (t : EReal) (w : Fin (p + q) → EReal) :
    atLeast t w = atLeast t (fun k => w (Fin.castAdd q k)) + atLeast t (fun k => w (Fin.natAdd p k)) := by
  unfold atLeast
  rw [Finset.card_filter, Finset.card_filter, Finset.card_filter, Fin.sum_univ_add]

/-! ## Taking the greatest entries one after another -/

/-- `W 0, W 1, …` are rows, each but the first the row before with one greatest entry struck out; `M j` is the greatest
    entry of `W j`. -/
structure Descent (W : ℕ → Fin n → EReal) (M : ℕ → EReal) : Prop where
  top : ∀ j, IsTop (W j) (M j)
  next : ∀ j, ∃ k, W j k = M j ∧ W (j + 1) = strike (W j) k

theorem Descent.count {W : ℕ → Fin n → EReal} {M : ℕ → EReal} (h : Descent W M) {t : EReal} (ht : ⊥ < t) :
    ∀ j, atLeast t (W j) = atLeast t (W 0) - j
  | 0 => rfl
  | j + 1 => by
    obtain ⟨k, hk, e⟩ := h.next j
    rw [e, atLeast_strike (h.top j) hk ht, h.count ht j, Nat.sub_sub]

/-- The greatest entry met after `j` steps has rank `j` among the entries of the first row. -/
theorem Descent.rank {W : ℕ → Fin n → EReal} {M : ℕ → EReal} (h : Descent W M) (j : ℕ) : HasRank (fun t => atLeast t (W 0)) j (M j) := by
  intro t ht
  rw [(h.top j).le_iff, h.count ht j]
  exact Nat.sub_pos_iff_lt

/-- `(A 0, B 0), (A 1, B 1), …` are pairs of rows with greatest entries `(M j, N j)`: each step strikes out one greatest
    entry of the left row where `N j ≤ M j`, and one of the right row otherwise. -/
structure PairDescent (A B : ℕ → Fin n → EReal) (M N : ℕ → EReal) : Prop where
  topLeft : ∀ j, IsTop (A j) (M j)
  topRight : ∀ j, IsTop (B j) (N j)
  left : ∀ j, N j ≤ M j → (∃ k, A j k = M j ∧ A (j + 1) = strike (A j) k) ∧ B (j + 1) = B j
  right : ∀ j, ¬ N j ≤ M j → A (j + 1) = A j ∧ ∃ k, B j k = N j ∧ B (j + 1) = strike (B j) k

theorem PairDescent.count {A B : ℕ → Fin n → EReal} {M N : ℕ → EReal} (h : PairDescent A B M N) {t : EReal} (ht : ⊥ < t) :
    ∀ j, atLeast t (A j) + atLeast t (B j) = atLeast t (A 0) + atLeast t (B 0) - j
  | 0 => rfl
  | j + 1 => by
    have ih := h.count ht j
    have hA := (h.topLeft j).le_iff t
    have hB := (h.topRight j).le_iff t
    by_cases hMN : N j ≤ M j
    · obtain ⟨⟨k, hk, e⟩, e'⟩ := h.left j hMN
      rw [e, e', atLeast_strike (h.topLeft j) hk ht]
      have : 0 < atLeast t (B j) → 0 < atLeast t (A j) := fun hp => hA.mp ((hB.mpr hp).trans hMN)
      omega
    · obtain ⟨e', k, hk, e⟩ := h.right j hMN
      rw [e, e', atLeast_strike (h.topRight j) hk ht]
      have : 0 < atLeast t (A j) → 0 < atLeast t (B j) := fun hp => hB.mp ((hA.mpr hp).trans (not_le.mp hMN).le)
      omega

/-- The greater of the two greatest entries met after `j` steps has rank `j` among the entries of the first two rows. -/
theorem PairDescent.rank {A B : ℕ → Fin n → EReal} {M N : ℕ → EReal} (h : PairDescent A B M N) (j : ℕ) :
    HasRank (fun t => atLeast t (A 0) + atLeast t (B 0)) j (max (M j) (N j)) := by
  intro t ht
  have hc := h.count ht j
  rw [le_max_iff, (h.topLeft j).le_iff, (h.topRight j).le_iff]
  show _ ↔ j < atLeast t (A 0) + atLeast t (B 0)
  omega

/-! ## Column numbers -/

/-- A small number written in 32 bits and read back signed is itself. -/
theorem toInt_small {k : ℕ} (hk : k ≤ 4096) : (BitVec.ofNat 32 k).toInt = k := by
  have : (BitVec.ofNat 32 k).toNat = k := by rw [BitVec.toNat_ofNat]; omega
  rw [BitVec.toInt_eq_toNat_of_lt (by omega), this]

end Cert.TopEight

end
-- ==== Proof.Rows.lean ====
/-
# The kernel's steps read row by row, over the extended reals

Each step of `Steps` acts on every row by itself. This module reads the steps on one row `r`:

* the entry of `rowMax w` is the greatest entry of the row;
* `hit w` marks exactly one place of the row, and that place holds the row's greatest entry;
* `clear w` strikes that place out, and so does `clearIf t w` where `t` is set;
* `putCol j v out` changes the entry of column `j` only.

With `Count` this gives what the two lists hold: `localTop x` at column `k` has rank `k` among the block's row, and
`mergeTop a b` at column `k` has rank `k` among the two lists' rows together.
-/
module

public import proofs.«01_k».proof.Proof.Steps
public import proofs.«01_k».proof.Proof.Count
public import Idealize.ShloMosaic.PureOps.Ideal.Laws
public import Idealize.ShloMosaic.Lib.ValueIdx
public import Idealize.ShloMosaic.Lib.ValueLayoutCasts
public import Idealize.ShloMosaic.Lib.Pipeline.Value

@[expose] public section

noncomputable section

namespace Cert.TopEight

open Idealize.ShloMosaic Idealize.ShloMosaic.ValueIdx Cert.KernelIdeal Cert.KernelIdeal.Gen

/-- Row `r` of a block. -/
def row {n : ℕ} (w : FVec Ideal (Blk n) .f32) (r : Fin 256) : Fin n → EReal := fun k => w (ix2 r k)

/-- The word of −∞ denotes the least extended real. -/
theorem ofBits_low : (FloatOps.ofBits .f32 0xFF800000#32 : Ideal .f32) = (⊥ : EReal) := by
  show Ideal.ofBits .f32 0xFF800000#32 = ⊥
  simp [Ideal.ofBits, Ideal.ieee]

/-- A fold of signed minima is below every entry, and is the initial value or one of the entries. -/
theorem fold_minsi {ι : Type} (s : Finset ι) (b : BitVec 32) (g : ι → BitVec 32) :
    (∀ i ∈ s, (s.fold (IKind.op .minsi) b g).toInt ≤ (g i).toInt) ∧ (s.fold (IKind.op .minsi) b g).toInt ≤ b.toInt
      ∧ (s.fold (IKind.op .minsi) b g = b ∨ ∃ i ∈ s, s.fold (IKind.op .minsi) b g = g i) := by
  classical
  induction s using Finset.induction_on with
  | empty => exact ⟨fun i hi => absurd hi (Finset.notMem_empty i), le_rfl, .inl rfl⟩
  | insert a s ha ih =>
    rw [Finset.fold_insert ha]
    generalize s.fold (IKind.op .minsi) b g = f at ih ⊢
    obtain ⟨h1, h2, h3⟩ := ih
    have e : IKind.op .minsi (g a) f = if (g a).slt f then g a else f := rfl
    rw [e]
    by_cases hlt : (g a).slt f = true
    · have hlt' : (g a).toInt < f.toInt := by simpa [BitVec.slt] using hlt
      rw [if_pos hlt]
      refine ⟨fun i hi => ?_, hlt'.le.trans h2, .inr ⟨a, Finset.mem_insert_self _ _, rfl⟩⟩
      rcases Finset.mem_insert.mp hi with rfl | hi
      · exact le_rfl
      · exact hlt'.le.trans (h1 i hi)
    · have hle : f.toInt ≤ (g a).toInt := by simpa [BitVec.slt] using hlt
      rw [if_neg hlt]
      refine ⟨fun i hi => ?_, h2, ?_⟩
      · rcases Finset.mem_insert.mp hi with rfl | hi
        · exact hle
        · exact h1 i hi
      · rcases h3 with h3 | ⟨i, hi, h3⟩
        · exact .inl h3
        · exact .inr ⟨i, Finset.mem_insert_of_mem hi, h3⟩

section Step
variable {n : ℕ} (h : Width n) (w : FVec Ideal (Blk n) .f32) (r : Fin 256)

/-- The place of row `r` and column `k` is row `r`'s place with `k` put in. -/
theorem lift_row (k : Fin n) : h.red.lift (ix1 r) k = ix2 r k := by
  funext a
  match a with
  | ⟨0, _⟩ => exact Fin.ext rfl
  | ⟨1, _⟩ => exact Fin.ext rfl

/-- A column spread over the block reads, in each row, the column's entry of that row. -/
theorem spread_apply {α : Type} (v : S256x1.Idx → α) (hs : S256x1.Broadcasts (Blk n)) (k : Fin n) : broadcastTo (Blk n) v hs (ix2 r k) = v (ix2 r 0) :=
  broadcastTo_apply v hs _ _ fun a => by
    match a with
    | ⟨0, _⟩ => rfl
    | ⟨1, _⟩ => rfl

/-- The entry of `rowMax w` is the greatest entry of the row. -/
theorem rowMax_top (hn : 0 < n) : IsTop (row w r) (rowMax h w (ix2 r 0)) := by
  have e : rowMax h w (ix2 r 0) = (Finset.univ : Finset (Fin n)).fold max (⊥ : EReal) (row w r) := by
    refine (shapeCast_a_a1_apply _ _ _ _).trans ((Ideal.multiReduction_maximumf_single w _ h.red _ _ (ix1 r)).trans ?_)
    rw [ofBits_low]
    exact Finset.fold_congr fun (k : Fin n) _ => congrArg w (lift_row h r k)
  have hle : ∀ k, row w r k ≤ rowMax h w (ix2 r 0) := fun k => by
    rw [e]; exact Finset.le_fold_max _ |>.mpr (.inr ⟨k, Finset.mem_univ _, le_rfl⟩)
  refine ⟨hle, ?_⟩
  rcases (Finset.le_fold_max (rowMax h w (ix2 r 0))).mp e.le with hb | ⟨k, _, hk⟩
  · exact ⟨⟨0, hn⟩, le_antisymm (hle _) (hb.trans bot_le)⟩
  · exact ⟨k, le_antisymm (hle k) hk⟩

/-- `hit w` marks one place of the row, and that place holds the row's greatest entry. -/
theorem hit_one (hn : 0 < n) (hn' : n ≤ 1024) :
    ∃ k, row w r k = rowMax h w (ix2 r 0) ∧ ∀ i, hit h w (ix2 r i) = 1#1 ↔ i = k := by
  let g : Fin n → BitVec 32 := fun k => if row w r k = rowMax h w (ix2 r 0) then BitVec.ofNat 32 k.val else BitVec.ofNat 32 n
  have e : firstAt h w (ix2 r 0) = (Finset.univ : Finset (Fin n)).fold (IKind.op .minsi) 2147483647#32 g := by
    refine (shapeCast_a_a1_apply _ _ _ _).trans ((multiReductionI_eq_fold .minsi _ _ h.red _ (ix1 r)).trans ?_)
    refine (h.red.fold_filter_drop_single _ _ _ _).trans (Finset.fold_congr fun (k : Fin n) _ => ?_)
    refine (congrArg (select _ _ _) (lift_row h r k)).trans ?_
    rw [select_apply, cmpf_apply, spread_apply]
    show (if Ideal.cmp .oeq (row w r k) _ = 1#1 then _ else _) = g k
    rw [show colNo h (ix2 r k) = BitVec.ofNat 32 k.val from iota_single_apply _ _ _ _ _ _, broadcast_apply]
    by_cases hk : row w r k = rowMax h w (ix2 r 0) <;> simp [g, hk, Ideal.cmp]
  obtain ⟨k0, hk0⟩ := (rowMax_top h w r hn).2
  obtain ⟨h1, _, h3⟩ := fold_minsi (Finset.univ : Finset (Fin n)) 2147483647#32 g
  rw [← e] at h1 h3
  have hlt : (firstAt h w (ix2 r 0)).toInt < n := by
    refine lt_of_le_of_lt (h1 k0 (Finset.mem_univ _)) ?_
    have : g k0 = BitVec.ofNat 32 k0.val := if_pos hk0
    rw [this, toInt_small (by omega)]
    exact_mod_cast k0.isLt
  have hex : ∃ k, row w r k = rowMax h w (ix2 r 0) ∧ firstAt h w (ix2 r 0) = BitVec.ofNat 32 k.val := by
    rcases h3 with h3 | ⟨k, _, h3⟩
    · rw [h3, show (2147483647#32).toInt = 2147483647 from rfl] at hlt
      omega
    · by_cases hk : row w r k = rowMax h w (ix2 r 0)
      · exact ⟨k, hk, h3.trans (if_pos hk)⟩
      · rw [h3.trans (if_neg hk), toInt_small (by omega)] at hlt
        exact absurd hlt (lt_irrefl _)
  obtain ⟨k, hk, hf⟩ := hex
  refine ⟨k, hk, fun i => ?_⟩
  have ev : hit h w (ix2 r i) = BitVec.ofBool (BitVec.ofNat 32 i.val == BitVec.ofNat 32 k.val) := by
    show IntOp.cmpi .eq (colNo h (ix2 r i)) (broadcastTo (Blk n) (firstAt h w) h.spread (ix2 r i)) = _
    rw [spread_apply, hf, show colNo h (ix2 r i) = BitVec.ofNat 32 i.val from iota_single_apply _ _ _ _ _ _]
    rfl
  rw [ev]
  constructor
  · intro hb
    have hb' : BitVec.ofNat 32 i.val = BitVec.ofNat 32 k.val := by
      by_contra hne
      rw [beq_eq_false_iff_ne.mpr hne] at hb
      exact absurd hb (by decide)
    have := congrArg BitVec.toInt hb'
    rw [toInt_small (by omega), toInt_small (by omega)] at this
    exact Fin.ext (by exact_mod_cast this)
  · rintro rfl
    rw [beq_self_eq_true]
    rfl

/-- `clear w` strikes out one greatest entry of the row. -/
theorem clear_row (hn : 0 < n) (hn' : n ≤ 1024) :
    ∃ k, row w r k = rowMax h w (ix2 r 0) ∧ row (clear h w) r = strike (row w r) k := by
  obtain ⟨k, hk, hh⟩ := hit_one h w r hn hn'
  refine ⟨k, hk, funext fun i => ?_⟩
  show (select (hit h w) (low n) w) (ix2 r i) = if i = k then ⊥ else row w r i
  rw [select_apply]
  by_cases hi : i = k
  · rw [if_pos hi, (hh i).mpr hi, select_one]
    exact ofBits_low
  · rw [if_neg hi, eq_zero_of_ne_one fun hc => hi ((hh i).mp hc), select_zero]
    rfl

/-- `clearIf t w` strikes out one greatest entry of the row where `t` is set. -/
theorem clearIf_set (hn : 0 < n) (hn' : n ≤ 1024) (t : IVec S256x1 1) (ht : t (ix2 r 0) = 1#1) :
    ∃ k, row w r k = rowMax h w (ix2 r 0) ∧ row (clearIf h t w) r = strike (row w r) k := by
  obtain ⟨k, hk, hh⟩ := hit_one h w r hn hn'
  refine ⟨k, hk, funext fun i => ?_⟩
  show (select (andi (broadcastTo (Blk n) t h.spread) (hit h w)) (low n) w) (ix2 r i) = if i = k then ⊥ else row w r i
  have ea : (andi (broadcastTo (Blk n) t h.spread) (hit h w)) (ix2 r i) = hit h w (ix2 r i) := by
    show broadcastTo (Blk n) t h.spread (ix2 r i) &&& hit h w (ix2 r i) = _
    rw [spread_apply, ht]
    generalize hit h w (ix2 r i) = b
    revert b; decide
  rw [select_apply, ea]
  by_cases hi : i = k
  · rw [if_pos hi, (hh i).mpr hi, select_one]
    exact ofBits_low
  · rw [if_neg hi, eq_zero_of_ne_one fun hc => hi ((hh i).mp hc), select_zero]
    rfl

/-- `clearIf t w` keeps the row where `t` is not set. -/
theorem clearIf_unset (t : IVec S256x1 1) (ht : t (ix2 r 0) = 0#1) : row (clearIf h t w) r = row w r := by
  funext i
  show (select (andi (broadcastTo (Blk n) t h.spread) (hit h w)) (low n) w) (ix2 r i) = row w r i
  have ea : (andi (broadcastTo (Blk n) t h.spread) (hit h w)) (ix2 r i) = 0#1 := by
    show broadcastTo (Blk n) t h.spread (ix2 r i) &&& hit h w (ix2 r i) = _
    rw [spread_apply, ht]
    generalize hit h w (ix2 r i) = b
    revert b; decide
  rw [select_apply, ea, select_zero]
  rfl

end Step

/-- `putCol j v out` holds `v` in column `j` and `out` in the others. -/
theorem putCol_row (j : ℕ) (hj : j < 8) (v : FVec Ideal S256x1 .f32) (out : FVec Ideal S256x8 .f32) (r : Fin 256) (k : Fin 8) :
    row (putCol j v out) r k = if k.val = j then v (ix2 r 0) else row out r k := by
  show (select (cmpi .eq (colNo slim) (broadcast S256x8 (BitVec.ofNat 32 j)))
    (broadcastTo S256x8 (shapeCast S256x1 v shapeCasts_S256x1_S256x1) broadcasts_S256x1_S256x8) out) (ix2 r k) = _
  rw [select_apply, spread_apply, shapeCast_self]
  have ec : cmpi .eq (colNo slim) (broadcast S256x8 (BitVec.ofNat 32 j)) (ix2 r k)
      = BitVec.ofBool (BitVec.ofNat 32 k.val == BitVec.ofNat 32 j) := by
    show IntOp.cmpi .eq (colNo slim (ix2 r k)) _ = _
    rw [show colNo slim (ix2 r k) = BitVec.ofNat 32 k.val from iota_single_apply _ _ _ _ _ _]
    rfl
  rw [ec]
  by_cases hk : k.val = j
  · rw [if_pos hk, hk, beq_self_eq_true]
    exact select_one _ _
  · have hne : BitVec.ofNat 32 k.val ≠ BitVec.ofNat 32 j := fun hb => hk (by
      have := congrArg BitVec.toInt hb
      rw [toInt_small (by omega), toInt_small (by omega)] at this
      exact_mod_cast this)
    rw [if_neg hk, beq_eq_false_iff_ne.mpr hne]
    exact select_zero _ _

/-! ## The two lists -/

/-- The steps on a block are a descent of each row. -/
theorem work_descent (w : FVec Ideal S256x1024 .f32) (r : Fin 256) :
    Descent (fun j => row (n := 1024) (work w j) r) (fun j => rowMax wide (work w j) (ix2 r 0)) where
  top j := rowMax_top wide (work w j) r (by omega)
  next j := clear_row wide (work w j) r (by omega) le_rfl

/-- Column `k` of the list after `j > k` steps is the row's maximum before step `k`. -/
theorem tops_row (w : FVec Ideal S256x1024 .f32) (r : Fin 256) (k : Fin 8) :
    ∀ j, k.val < j → j ≤ 8 → row (n := 8) (tops w j) r k = rowMax wide (work w k.val) (ix2 r 0)
  | 0, h, _ => absurd h (Nat.not_lt_zero _)
  | j + 1, h, h8 => by
    show row (n := 8) (putCol j (rowMax wide (work w j)) (tops w j)) r k = _
    rw [putCol_row j (by omega)]
    by_cases hk : k.val = j
    · rw [if_pos hk, hk]
    · rw [if_neg hk]
      exact tops_row w r k j (by omega) (by omega)

/-- The block widened to the wider format holds the block's own values. -/
theorem k0_pay2_ideal (x : Vec Ideal S256x1024 .bf16) (i : S256x1024.Idx) : (k0_pay2 x i : EReal) = x i :=
  congrFun (shapeCast_self x shapeCasts_S256x1024_S256x1024) i

/-- A block's list holds at column `k` the value of rank `k` of the block's row. -/
theorem localTop_rank (x : Vec Ideal S256x1024 .bf16) (r : Fin 256) (k : Fin 8) :
    HasRank (fun t => atLeast t (fun i : Fin 1024 => (x (ix2 r i) : EReal))) k.val (row (n := 8) (localTop x) r k) := by
  have ex : row (n := 1024) (work (k0_pay2 x) 0) r = fun i : Fin 1024 => (x (ix2 r i) : EReal) :=
    funext fun i => k0_pay2_ideal x (ix2 r i)
  have d := (work_descent (k0_pay2 x) r).rank k.val
  rw [← tops_row (k0_pay2 x) r k 8 k.isLt le_rfl, ex] at d
  exact d

/-- The steps on two lists are a descent of each pair of rows. -/
theorem rest_descent (a b : FVec Ideal S256x8 .f32) (r : Fin 256) :
    PairDescent (fun j => row (n := 8) (rest a b j).1 r) (fun j => row (n := 8) (rest a b j).2 r)
      (fun j => rowMax slim (rest a b j).1 (ix2 r 0)) (fun j => rowMax slim (rest a b j).2 (ix2 r 0)) := by
  have et : ∀ j, takeLeft (rest a b j) (ix2 r 0)
      = BitVec.ofBool (decide (rowMax slim (rest a b j).2 (ix2 r 0) ≤ rowMax slim (rest a b j).1 (ix2 r 0))) := fun j => rfl
  have ex : ∀ j, xori (takeLeft (rest a b j)) (constantI S256x1 1 1#1) (ix2 r 0) = takeLeft (rest a b j) (ix2 r 0) ^^^ 1#1 := fun j => rfl
  refine ⟨fun j => rowMax_top slim _ r (by omega), fun j => rowMax_top slim _ r (by omega), fun j hj => ?_, fun j hj => ?_⟩
  · have e1 := (et j).trans (congrArg BitVec.ofBool (decide_eq_true hj))
    exact ⟨clearIf_set slim _ r (by omega) (by omega) _ e1, clearIf_unset slim _ r _ ((ex j).trans (by rw [e1]; rfl))⟩
  · have e0 := (et j).trans (congrArg BitVec.ofBool (decide_eq_false hj))
    exact ⟨clearIf_unset slim _ r _ e0, clearIf_set slim _ r (by omega) (by omega) _ ((ex j).trans (by rw [e0]; rfl))⟩

/-- Column `k` of the merge after `j > k` steps is the greater of the two rows' maxima before step `k`. -/
theorem merged_row (a b : FVec Ideal S256x8 .f32) (r : Fin 256) (k : Fin 8) :
    ∀ j, k.val < j → j ≤ 8 → row (n := 8) (merged a b j) r k
      = max (rowMax slim (rest a b k.val).1 (ix2 r 0) : EReal) (rowMax slim (rest a b k.val).2 (ix2 r 0))
  | 0, h, _ => absurd h (Nat.not_lt_zero _)
  | j + 1, h, h8 => by
    show row (n := 8) (putCol j (maximumf (rowMax slim (rest a b j).1) (rowMax slim (rest a b j).2)) (merged a b j)) r k = _
    rw [putCol_row j (by omega)]
    by_cases hk : k.val = j
    · rw [if_pos hk, hk]
      rfl
    · rw [if_neg hk]
      exact merged_row a b r k j (by omega) (by omega)

/-- The merge of two lists holds at column `k` the value of rank `k` of the two rows together. -/
theorem mergeTop_rank (a b : FVec Ideal S256x8 .f32) (r : Fin 256) (k : Fin 8) :
    HasRank (fun t => atLeast t (row (n := 8) a r) + atLeast t (row (n := 8) b r)) k.val (row (n := 8) (mergeTop a b) r k) := by
  have e := merged_row a b r k 8 k.isLt le_rfl
  have d := (rest_descent a b r).rank k.val
  rw [← e] at d
  exact d

/-- The merge of the lists of two blocks holds at column `k` the value of rank `k` of the two blocks' rows together. -/
theorem mergeTop_localTop_rank (x y : Vec Ideal S256x1024 .bf16) (r : Fin 256) (k : Fin 8) :
    HasRank (fun t => atLeast t (fun i : Fin 1024 => (x (ix2 r i) : EReal)) + atLeast t (fun i : Fin 1024 => (y (ix2 r i) : EReal)))
      k.val (row (n := 8) (mergeTop (localTop x) (localTop y)) r k) := by
  intro t ht
  have hx := atLeast_of_ranks (localTop_rank x r) ht
  have hy := atLeast_of_ranks (localTop_rank y r) ht
  rw [mergeTop_rank _ _ r k t ht]
  show k.val < atLeast t (row (n := 8) (localTop x) r) + atLeast t (row (n := 8) (localTop y) r)
    ↔ k.val < atLeast t (fun i : Fin 1024 => (x (ix2 r i) : EReal)) + atLeast t (fun i : Fin 1024 => (y (ix2 r i) : EReal))
  omega

end Cert.TopEight

end
-- ==== Proof.Ref.lean ====
/-
# The reference's result read at an index, over the extended reals

The reference sorts the negated rows in ascending order, carries the column numbers along, keeps the first eight, and
takes the row's entries at these columns. `place x r k` is the column that comes `k`-th in row `r`. The places of a row
are a permutation of its columns, and the row's entries at them descend; so the reference's entry `(r, k)` has rank `k`
among the row's entries. The printed text also wraps negative column numbers and puts a not-a-number where a column number
is out of range: column numbers lie in range, so neither happens.
-/
module

public import proofs.«01_k».proof.Proof.Gen.ReferenceIdeal.Run
public import proofs.«01_k».proof.Proof.Count
public import Idealize.ShloMosaic.PureOps.Ideal.Laws
public import Idealize.ShloMosaic.Lib.ValueIdx
public import Idealize.ShloMosaic.Lib.Pipeline.Value
public import Idealize.ShloMosaic.Lib.SortFacts
public import Idealize.ShloMosaic.Lib.ReduceAll
public import Idealize.ShloMosaic.Lib.Affine

@[expose] public section

noncomputable section

namespace Cert.TopEight.Ref

open Idealize.ShloMosaic Idealize.ShloMosaic.ValueIdx Cert.ReferenceIdeal Cert.ReferenceIdeal.Gen

/-! ## The sort -/

/-- The sort's comparator first replaces a zero by zero and a not-a-number by a fixed one: over the extended reals neither
    changes the value. -/
theorem canonical (z nan a : Ideal .f32) :
    Scalar.select (FloatOps.cmpf .une a a) nan (Scalar.select (FloatOps.cmpf .oeq a z) z a) = a := by
  have e1 : FloatOps.cmpf .une a a = 0#1 := by
    show BitVec.ofBool (decide ((a : EReal) ≠ a)) = 0#1
    simp
  have e2 : Scalar.select (FloatOps.cmpf .oeq a z) z a = a := by
    show Scalar.select (BitVec.ofBool (decide ((a : EReal) = z))) z a = a
    by_cases h : (a : EReal) = z
    · rw [h]; simp [Scalar.select]
    · simp [Scalar.select, h]
  rw [e1, e2]
  rfl

/-- The comparator orders pairs by their first components. -/
theorem comparator_eq (l r : Ideal .f32 × BitVec 32) : (comparator_f32_i32_d1 l r == 1#1) = decide ((l.1 : EReal) < r.1) := by
  have e : comparator_f32_i32_d1 l r = BitVec.ofBool (decide ((l.1 : EReal) < r.1)) := by
    show FloatOps.cmpfTotal .lt _ _ = _
    rw [canonical, canonical]
    rfl
  rw [e]
  cases decide ((l.1 : EReal) < r.1) <;> rfl

/-- The column that comes `k`-th when row `r` is put in descending order. -/
def place (x : FVec Ideal S256x2048 .f32) (r : Fin 256) (k : Fin 2048) : Fin 2048 :=
  sortedFrom (fun p q : Fin 2048 => decide (-(x (ix2 r p) : EReal) < -(x (ix2 r q) : EReal))) k

theorem place_bijective (x : FVec Ideal S256x2048 .f32) (r : Fin 256) : Function.Bijective (place x r) :=
  ⟨sortedFrom_injective _, sortedFrom_surjective _⟩

/-- Along the places the entries of the row descend. -/
theorem place_descends (x : FVec Ideal S256x2048 .f32) (r : Fin 256) (i j : Fin 2048) (hij : i < j) :
    (x (ix2 r (place x r j)) : EReal) ≤ x (ix2 r (place x r i)) := by
  have h := sortedFrom_noInversion (fun p q : Fin 2048 => decide (-(x (ix2 r p) : EReal) < -(x (ix2 r q) : EReal))) _
    (fun a b hab => decide_eq_false (not_lt.mpr (of_decide_eq_true hab).le)) (fun _ _ h => h)
    (fun a b c hab hbc => decide_eq_false (not_lt.mpr ((not_lt.mp (of_decide_eq_false hbc)).trans (not_lt.mp (of_decide_eq_false hab)))))
    i j hij
  exact EReal.neg_le_neg_iff.mp (not_lt.mp (of_decide_eq_false h))

/-- The entry at the `k`-th place has rank `k` among the row's entries. -/
theorem place_rank (x : FVec Ideal S256x2048 .f32) (r : Fin 256) (k : Fin 2048) :
    HasRank (fun t => atLeast t fun i : Fin 2048 => (x (ix2 r i) : EReal)) k.val (x (ix2 r (place x r k))) := by
  have h := rank_of_sorted (u := fun i : Fin 2048 => (x (ix2 r (place x r i)) : EReal)) (place_descends x r) k
  have e : (fun t => atLeast t fun i : Fin 2048 => (x (ix2 r (place x r i)) : EReal))
      = fun t => atLeast t fun i : Fin 2048 => (x (ix2 r i) : EReal) :=
    funext fun t => atLeast_comp (place_bijective x r) t fun i => (x (ix2 r i) : EReal)
  rw [e] at h
  exact h

/-- A position of row `r` seen along the row. -/
theorem along_col {n : ℕ} (r : Fin 256) (k p : Fin n) : Shape.Idx.along (s := ⟨2, ![256, n]⟩) (ix2 r k) 1 p = ix2 r p := by
  funext a
  match a with
  | ⟨0, _⟩ => rfl
  | ⟨1, _⟩ => rfl

/-- The second of two arrays sorted along the rows is moved, within each row, by the places of the sort. -/
theorem sort2_row {n : ℕ} {α β : Type} (cmp : α × β → α × β → BitVec 1) (x : (⟨2, ![256, n]⟩ : Shape).Idx → α)
    (y : (⟨2, ![256, n]⟩ : Shape).Idx → β) (r : Fin 256) (k : Fin n) : (Host.sort2 ⟨2, ![256, n]⟩ 1 cmp x y).2 (ix2 r k)
      = y (ix2 r (sortedFrom (fun p q : Fin n => cmp (x (ix2 r p), y (ix2 r p)) (x (ix2 r q), y (ix2 r q)) == 1#1) k)) := by
  unfold Host.sort2
  rw [dif_pos (show 1 < (⟨2, ![256, n]⟩ : Shape).rank from Nat.one_lt_two)]
  refine congrArg y ((along_col r k _).trans (congrArg (fun b => ix2 r (sortedFrom b k)) (funext fun p => funext fun q => ?_)))
  exact congrArg₂ (fun i j => cmp (x i, y i) (x j, y j) == 1#1) (along_col r k p) (along_col r k q)

/-- The column numbers in sorted order. -/
def cols (x : FVec Ideal S256x2048 .f32) : IVec S256x2048 32 :=
  (Host.sort2 S256x2048 1 comparator_f32_i32_d1 (Host.negf x) (iotaInDim S256x2048 32 1)).2

theorem cols_apply (x : FVec Ideal S256x2048 .f32) (r : Fin 256) (k : Fin 2048) :
    cols x (ix2 r k) = BitVec.ofNat 32 (place x r k).val := by
  refine (sort2_row _ _ _ r k).trans ?_
  show BitVec.ofNat 32 _ = BitVec.ofNat 32 _
  unfold place
  refine congrArg (fun b => BitVec.ofNat 32 (sortedFrom b k).val) (funext fun p => funext fun q => ?_)
  exact comparator_eq _ _

/-! ## The first eight column numbers -/

/-- The first eight of each row. -/
def first (x : FVec Ideal S256x2048 .f32) : IVec S256x8 32 :=
  extractStridedSlice S256x8 ![0, 0] (cols x) slices_S256x2048_S256x8_0_0

/-- The same with 2048 added to the negative ones, stood up with a last axis of length one. -/
def index (x : FVec Ideal S256x2048 .f32) : IVec S256x8x1 32 :=
  shapeCast _ (select (cmpi .slt (first x) (broadcastInDim S256x8 ![] bcast_S_S256x8 (constantI S_ 32 0#32)))
    (addi (first x) (broadcastInDim S256x8 ![] bcast_S_S256x8 (constantI S_ 32 2048#32))) (first x)) shapeCasts_S256x8_S256x8x1

/-- One of the first eight columns as a column of the block. -/
abbrev early (k : Fin 8) : Fin 2048 := ⟨k.val, by omega⟩

theorem first_apply (x : FVec Ideal S256x2048 .f32) (r : Fin 256) (k : Fin 8) :
    first x (ix2 r k) = BitVec.ofNat 32 (place x r (early k)).val :=
  (extractStridedSlice_apply _ _ _ _ (ix2 r (early k)) fun a => by
    match a with
    | ⟨0, _⟩ => exact (Nat.zero_add _).symm
    | ⟨1, _⟩ => exact (Nat.zero_add _).symm).trans (cols_apply x r (early k))

/-- A constant spread over a shape reads the constant. -/
theorem spread_const {t : Shape} (h : S_.BroadcastsInDim t ![]) (c : BitVec 32) (j : t.Idx) :
    broadcastInDim t ![] h (constantI S_ 32 c) j = c :=
  broadcastInDim_apply _ h _ j (fun a => a.elim0) fun a => a.elim0

theorem index_apply (x : FVec Ideal S256x2048 .f32) (r : Fin 256) (k : Fin 8) (u : Fin 1) :
    index x (ix3 r k u) = BitVec.ofNat 32 (place x r (early k)).val := by
  have hu : u.val = 0 := by omega
  refine (shapeCast_apply _ _ _ (ix2 r k) ?_).trans ?_
  · rw [Shape.rowMajor_val_two, Shape.rowMajor_val_three]
    show r.val * 8 + k.val = (r.val * 8 + k.val) * 1 + u.val
    omega
  · rw [select_apply]
    have e : cmpi .slt (first x) (broadcastInDim S256x8 ![] bcast_S_S256x8 (constantI S_ 32 0#32)) (ix2 r k) = 0#1 := by
      refine eq_zero_of_ne_one fun hc => ?_
      have hc' := IntOp.cmpi_slt.mp hc
      rw [first_apply, spread_const, toInt_small (k := (place x r (early k)).val) (by omega), toInt_small (k := 0) (by omega)] at hc'
      omega
    rw [e, select_zero, first_apply]

/-! ## Taking the entries -/

/-- Every column number is in range. -/
theorem in_range (x : FVec Ideal S256x2048 .f32) (i : S256x8x1.Idx) :
    andi (cmpi .sge (index x) (broadcastInDim S256x8x1 ![] bcast_S_S256x8x1 (constantI S_ 32 0#32)))
      (cmpi .sle (index x) (broadcastInDim S256x8x1 ![0, 1, 2] bcast_S1x1x1_S256x8x1_0_1_2
        (broadcastInDim S1x1x1 ![2] bcast_S1_S1x1x1_2 (constantI S1 32 2047#32)))) i = 1#1 := by
  obtain ⟨r, k, u, rfl⟩ : ∃ (r : Fin 256) (k : Fin 8) (u : Fin 1), i = ix3 r k u := ⟨_, _, _, eq_ix3 i⟩
  have hi := index_apply x r k u
  have h0 : cmpi .sge (index x) (broadcastInDim S256x8x1 ![] bcast_S_S256x8x1 (constantI S_ 32 0#32)) (ix3 r k u) = 1#1 := by
    refine IntOp.cmpi_sge.mpr ?_
    rw [hi, spread_const, toInt_small (k := (place x r (early k)).val) (by omega), toInt_small (k := 0) (by omega)]
    omega
  have h1 : cmpi .sle (index x) (broadcastInDim S256x8x1 ![0, 1, 2] bcast_S1x1x1_S256x8x1_0_1_2
      (broadcastInDim S1x1x1 ![2] bcast_S1_S1x1x1_2 (constantI S1 32 2047#32))) (ix3 r k u) = 1#1 := by
    refine IntOp.cmpi_sle.mpr ?_
    show (index x (ix3 r k u)).toInt ≤ (2047#32).toInt
    rw [hi, toInt_small (k := (place x r (early k)).val) (by omega), toInt_small (k := 2047) (by omega)]
    omega
  show IntOp.andi _ _ = 1#1
  rw [h0, h1]
  rfl

/-- The gather's entry `(r, k)` is the operand's entry of row `r` at column `idx (r, k, 0)`, read signed and held within the
    columns. -/
theorem gather_apply (x : FVec Ideal S256x2048 .f32) (idx : IVec S256x8x1 32) (r : Fin 256) (k : Fin 8) :
    Host.gather gather_S256x2048_S256x8x1_S256x8_n_1_0_0_1_2_11 x idx (ix2 r k)
      = x (ix2 r ⟨min (idx (ix3 r k 0)).toInt.toNat 2047, by omega⟩) := by
  refine congrArg x (funext fun a => Fin.ext ?_)
  show gather_S256x2048_S256x8x1_S256x8_n_1_0_0_1_2_11.start (ix2 r k) idx a
    + gather_S256x2048_S256x8x1_S256x8_n_1_0_0_1_2_11.batchCoord (ix2 r k) a
    + gather_S256x2048_S256x8x1_S256x8_n_1_0_0_1_2_11.offCoord (ix2 r k) a = _
  have ha : a = (0 : Fin 2) ∨ a = (1 : Fin 2) := by
    match a with
    | ⟨0, _⟩ => exact .inl rfl
    | ⟨1, _⟩ => exact .inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ gather_S256x2048_S256x8x1_S256x8_n_1_0_0_1_2_11.operandBatchingDims from List.mem_singleton.mpr rfl)]
    rfl
  · rw [GatherDims.batchCoord_eq_zero _ _ _ (show (1 : Fin 2) ∉ [(0 : Fin 2)] from by decide),
      GatherDims.offCoord_eq_zero _ _ _ (fun h => ((GatherDims.mem_sKept _ _).mp h).1 (List.mem_singleton.mpr rfl))]
    have hm : (1 : Fin 2) ∈ gather_S256x2048_S256x8x1_S256x8_n_1_0_0_1_2_11.startIndexMap := List.mem_singleton.mpr rfl
    have es : gather_S256x2048_S256x8x1_S256x8_n_1_0_0_1_2_11.siIdx (ix2 r k) ⟨List.idxOf (1 : Fin 2)
        gather_S256x2048_S256x8x1_S256x8_n_1_0_0_1_2_11.startIndexMap, List.idxOf_lt_length_iff.2 hm⟩ = ix3 r k 0 := by
      funext b
      match b with
      | ⟨0, _⟩ => rfl
      | ⟨1, _⟩ => rfl
      | ⟨2, _⟩ => rfl
    unfold GatherDims.start
    rw [dif_pos hm, es]
    rfl

/-- The reference's result as a function of the widened argument. -/
def taken (x : FVec Ideal S256x2048 .f32) : FVec Ideal S256x8 .f32 :=
  select (Host.reduce IntOp.andi (andi (cmpi .sge (index x) (broadcastInDim S256x8x1 ![] bcast_S_S256x8x1 (constantI S_ 32 0#32)))
      (cmpi .sle (index x) (broadcastInDim S256x8x1 ![0, 1, 2] bcast_S1x1x1_S256x8x1_0_1_2
        (broadcastInDim S1x1x1 ![2] bcast_S1_S1x1x1_2 (constantI S1 32 2047#32))))) (constantI S_ 1 1#1) reducesTo_S256x8x1_S256x8_d2 h_S_)
    (Host.gather gather_S256x2048_S256x8x1_S256x8_n_1_0_0_1_2_11 x (index x))
    (broadcastInDim S256x8 ![] bcast_S_S256x8 (constant S_ .f32 0x7FC00000#32))

theorem taken_apply (x : FVec Ideal S256x2048 .f32) (r : Fin 256) (k : Fin 8) :
    taken x (ix2 r k) = x (ix2 r (place x r (early k))) := by
  unfold taken
  rw [select_apply, Host.reduce_andi_one _ _ _ _ _ rfl (in_range x), select_one, gather_apply]
  refine congrArg (fun p => x (ix2 r p)) (Fin.ext ?_)
  show min (index x (ix3 r k 0)).toInt.toNat 2047 = (place x r (early k)).val
  rw [index_apply, toInt_small (by omega)]
  omega

/-- The reference's entry `(r, k)` has rank `k` among the entries of row `r`. -/
theorem taken_rank (x : FVec Ideal S256x2048 .f32) (r : Fin 256) (k : Fin 8) :
    HasRank (fun t => atLeast t fun i : Fin 2048 => (x (ix2 r i) : EReal)) k.val (taken x (ix2 r k)) := by
  rw [taken_apply]
  exact place_rank x r (early k)

end Cert.TopEight.Ref

end
-- ==== Proof.Equation.lean ====
/-
# The kernel's result is the reference's

Device `c` holds the columns of one half of the whole array, its peer those of the other half. So the counts of the two
devices' rows add up to the counts of the whole row; the kernel's entry `(r, k)` on every device and the reference's both
have rank `k` among them, and are equal.
-/
module

public import proofs.«01_k».proof.Proof.Rows
public import proofs.«01_k».proof.Proof.Ref
public import proofs.«01_k».proof.Proof.Pair
public import Idealize.ShloMosaic.Lib.Layout

@[expose] public section

noncomputable section

namespace Cert.TopEight

open Idealize.ShloMosaic Idealize.ShloMosaic.ValueIdx Cert.KernelIdeal Cert.KernelIdeal.Gen

/-- The whole array. -/
abbrev Whole : Type := (⟨2, ![256, 2048]⟩ : Shape).Idx → EReal

/-- Device `c`'s block of the whole array. -/
abbrev part (X : Whole) (c : Dev nD) : S256x1024.Idx → EReal :=
  Layout.blockN ⟨2, ![256, 1024]⟩ ⟨2, ![256, 2048]⟩ (Layout.meshBlock [2, 2, 4] ![[], [1]] c) X

/-- Which half of the columns device `c` holds. -/
def side (c : Dev nD) : ℕ := c.val / 4 % 2

theorem side_lt (c : Dev nD) : side c < 2 := Nat.mod_lt _ (by omega)

/-- A device and its peer hold different halves. -/
theorem side_peer (c : Dev nD) : side (peer c) = 1 - side c := by
  have h : c.val < 16 := c.isLt
  unfold side peer
  dsimp only
  omega

/-- Column `k` of half `s` as a column of the whole array. -/
abbrev colOf (s : ℕ) (hs : s < 2) (k : Fin 1024) : Fin 2048 := ⟨s * 1024 + k.val, by omega⟩

theorem part_apply (X : Whole) (c : Dev nD) (r : Fin 256) (k : Fin 1024) : part X c (ix2 r k) = X (ix2 r (colOf (side c) (side_lt c) k)) := by
  have e : Layout.meshLin [2, 2, 4] c.val [1] = side c := by
    revert c; decide
  refine (Layout.blockN_apply _ X _ _).trans (congrArg X (funext fun a => Fin.ext ?_))
  rw [Layout.TilesN.idx_val]
  match a with
  | ⟨0, _⟩ =>
    show Layout.meshLin [2, 2, 4] c.val [] * 256 + r.val = r.val
    rw [show Layout.meshLin [2, 2, 4] c.val [] = 0 from rfl]
    omega
  | ⟨1, _⟩ =>
    show Layout.meshLin [2, 2, 4] c.val [1] * 1024 + k.val = side c * 1024 + k.val
    rw [e]

/-- A row's count is the sum of the counts of the parts that a device and its peer hold. -/
theorem atLeast_parts (X : Whole) (c : Dev nD) (r : Fin 256) (t : EReal) :
    atLeast t (fun i : Fin 2048 => X (ix2 r i))
      = atLeast t (fun i : Fin 1024 => part X c (ix2 r i)) + atLeast t (fun i : Fin 1024 => part X (peer c) (ix2 r i)) := by
  have e0 : ∀ k : Fin 1024, (Fin.castAdd 1024 k : Fin 2048) = colOf 0 (by omega) k := fun k => Fin.ext (by simp)
  have e1 : ∀ k : Fin 1024, (Fin.natAdd 1024 k : Fin 2048) = colOf 1 (by omega) k := fun k => Fin.ext (by simp [Nat.add_comm])
  have hw := atLeast_append (p := 1024) (q := 1024) t fun i : Fin 2048 => X (ix2 r i)
  simp only [e0, e1] at hw
  simp only [part_apply, side_peer]
  rcases (show side c = 0 ∨ side c = 1 from by have := side_lt c; omega) with h | h
  · simp only [h]
    exact hw
  · simp only [h]
    exact hw.trans (Nat.add_comm _ _)

/-- The kernel's result on every device is the reference's. -/
theorem merge_eq_taken (X : Whole) (c : Dev nD) (x : FVec Ideal Cert.ReferenceIdeal.S256x2048 .f32) (hx : ∀ i, (x i : EReal) = X i) :
    (mergeTop (F := Ideal) (localTop (part X c)) (localTop (part X (peer c))) : S256x8.Idx → EReal) = Ref.taken x := by
  obtain rfl : X = x := (funext hx).symm
  funext i
  obtain ⟨r, k, rfl⟩ : ∃ (r : Fin 256) (k : Fin 8), i = ix2 r k := ⟨_, _, eq_ix2 i⟩
  have h1 := mergeTop_localTop_rank (part X c) (part X (peer c)) r k
  have h2 := Ref.taken_rank X r k
  rw [show (fun t => atLeast t fun i : Fin 2048 => (X (ix2 r i) : EReal)) = _ from funext fun t => atLeast_parts X c r t] at h2
  exact h1.unique h2

end Cert.TopEight

end
-- ==== Proof.lean ====
/-
# The certificate

The kernel's run is proved once for any float values (`Proof.Run`); at the machine's words it gives the kernel's frame, and
over the extended reals the ideal kernel's frame and its result. `Proof.Equation` says that this result is the one the
reference's run ends with.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.TopEight

/-- The kernel, at any float values, terminates with its argument unchanged and every semaphore counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c 0).trans (final_arg m ρ c), h.2⟩) (run_main m ρ)

/-- The two printed kernels have the same bodies, -/
theorem bodies_eq : Cert.Kernel.defs₀ (F := Bits) = Cert.KernelIdeal.defs₀ (F := Bits) := by
  funext p
  cases p with
  | tc =>
    funext l a
    match l, a with
    | (0 : Fin 1), (t, s) => rfl
  | scScalar _ => rfl
  | scVector _ _ => rfl

/-- and so the same table of bodies with the launch's own added. -/
theorem defs_eq : Cert.Kernel.defs (F := Bits) = Cert.KernelIdeal.defs (F := Bits) :=
  congrArg (Pipeline.defs Cert.KernelIdeal.pcfgs) bodies_eq

/-- At the machine's words `frame_any` is the kernel's frame, its text being the same, -/
theorem frame_kernel : Cert.quiescent_Kernel := fun m ρ _ => by
  have h := frame_any (F := Bits) m ρ
  rw [← defs_eq] at h
  exact h

/-- and over the extended reals the ideal kernel's. -/
theorem frame_kernelIdeal : Cert.quiescent_KernelIdeal := fun m ρ _ => frame_any (F := Ideal) m ρ

/-- The reference over the extended reals terminates with its argument unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel is the kernel's own text: nothing was rewritten. -/
theorem preserves : Cert.preserves_Kernel_KernelIdeal := trivial

/-- Over the extended reals every device's result is the reference's. -/
theorem algebraic : Cert.algebraic_KernelIdeal_ReferenceIdeal := by
  intro m ρ m' ρ' _ hag
  refine ⟨Ref.taken (extf .f32 (m' (((0 : Dev Cert.ReferenceIdeal.nD).tc : Thread Cert.ReferenceIdeal.nD Cert.ReferenceIdeal.τ).loc
      Cert.ReferenceIdeal.main_arg0)) Cert.ReferenceIdeal.Gen.bitsLt_bf16_f32), ?_, ?_⟩
  · refine (θ_run Cert.KernelIdeal.defs _ _).mono (fun _ h c => ⟨(h.1 c 1).trans ((final_out m ρ c).trans ?_), (h.1 c 0).trans (final_arg m ρ c)⟩)
      (run_main (F := Ideal) m ρ)
    unfold outAt ownList
    rw [block_eq, block_eq, hag, hag]
    exact merge_eq_taken _ c _ fun _ => rfl
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
